-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S8x512x4096 : Shape := ⟨3, ![8, 512, 4096]⟩
abbrev S3 : Shape := ⟨1, ![3]⟩
abbrev S512x4096 : Shape := ⟨2, ![512, 4096]⟩
abbrev S1x512x4096 : Shape := ⟨3, ![1, 512, 4096]⟩
abbrev S_ : Shape := ⟨0, ![]⟩
abbrev S1 : Shape := ⟨1, ![1]⟩
abbrev S8 : Shape := ⟨1, ![8]⟩
abbrev S1x1 : Shape := ⟨2, ![1, 1]⟩
abbrev S512x2048 : Shape := ⟨2, ![512, 2048]⟩
abbrev S1x512x2048 : Shape := ⟨3, ![1, 512, 2048]⟩
abbrev S1x1x1 : Shape := ⟨3, ![1, 1, 1]⟩
abbrev S4x8x128 : Shape := ⟨3, ![4, 8, 128]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 122
  | .vmem => 12
  | .smem => 5
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1024x4096, .bf16⟩
  | .hbm, ⟨3, _⟩ => ⟨S8x512x4096, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S_, .i32⟩
  | .hbm, ⟨44, _⟩ => ⟨S_, .i1⟩
  | .hbm, ⟨45, _⟩ => ⟨S8, .i1⟩
  | .hbm, ⟨46, _⟩ => ⟨S8, .i1⟩
  | .hbm, ⟨47, _⟩ => ⟨S8, .i1⟩
  | .hbm, ⟨48, _⟩ => ⟨S8, .i32⟩
  | .hbm, ⟨49, _⟩ => ⟨S8, .i32⟩
  | .hbm, ⟨50, _⟩ => ⟨S8, .i32⟩
  | .hbm, ⟨51, _⟩ => ⟨S8, .i32⟩
  | .hbm, ⟨52, _⟩ => ⟨S8, .i32⟩
  | .hbm, ⟨53, _⟩ => ⟨S_, .i32⟩
  | .hbm, ⟨54, _⟩ => ⟨S8, .i32⟩
  | .hbm, ⟨55, _⟩ => ⟨S8, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S8, .i32⟩
  | .hbm, ⟨63, _⟩ => ⟨S8, .i32⟩
  | .hbm, ⟨64, _⟩ => ⟨S_, .i32⟩
  | .hbm, ⟨65, _⟩ => ⟨S8, .i32⟩
  | .hbm, ⟨66, _⟩ => ⟨S8, .i1⟩
  | .hbm, ⟨67, _⟩ => ⟨S_, .i32⟩
  | .hbm, ⟨68, _⟩ => ⟨S8, .i32⟩
  | .hbm, ⟨69, _⟩ => ⟨S8, .i1⟩
  | .hbm, ⟨70, _⟩ => ⟨S_, .i32⟩
  | .hbm, ⟨71, _⟩ => ⟨S_, .i1⟩
  | .hbm, ⟨72, _⟩ => ⟨S8, .i1⟩
  | .hbm, ⟨73, _⟩ => ⟨S8, .i1⟩
  | .hbm, ⟨74, _⟩ => ⟨S8, .i1⟩
  | .hbm, ⟨75, _⟩ => ⟨S8, .i32⟩
  | .hbm, ⟨76, _⟩ => ⟨S8, .i32⟩
  | .hbm, ⟨77, _⟩ => ⟨S8, .i32⟩
  | .hbm, ⟨78, _⟩ => ⟨S8, .i32⟩
  | .hbm, ⟨79, _⟩ => ⟨S8, .i32⟩
  | .hbm, ⟨80, _⟩ => ⟨S_, .i32⟩
  | .hbm, ⟨81, _⟩ => ⟨S8, .i32⟩
  | .hbm, ⟨82, _⟩ => ⟨S8, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S8, .i32⟩
  | .hbm, ⟨90, _⟩ => ⟨S8, .i32⟩
  | .hbm, ⟨91, _⟩ => ⟨S_, .i32⟩
  | .hbm, ⟨92, _⟩ => ⟨S8, .i32⟩
  | .hbm, ⟨93, _⟩ => ⟨S8, .i1⟩
  | .hbm, ⟨94, _⟩ => ⟨S_, .i32⟩
  | .hbm, ⟨95, _⟩ => ⟨S8, .i32⟩
  | .hbm, ⟨96, _⟩ => ⟨S8, .i1⟩
  | .hbm, ⟨97, _⟩ => ⟨S_, .i32⟩
  | .hbm, ⟨98, _⟩ => ⟨S_, .i1⟩
  | .hbm, ⟨99, _⟩ => ⟨S8, .i1⟩
  | .hbm, ⟨100, _⟩ => ⟨S8, .i1⟩
  | .hbm, ⟨101, _⟩ => ⟨S8, .i1⟩
  | .hbm, ⟨102, _⟩ => ⟨S8, .i32⟩
  | .hbm, ⟨103, _⟩ => ⟨S8, .i32⟩
  | .hbm, ⟨104, _⟩ => ⟨S8, .i32⟩
  | .hbm, ⟨105, _⟩ => ⟨S8, .i32⟩
  | .hbm, ⟨106, _⟩ => ⟨S8, .i1⟩
  | .hbm, ⟨107, _⟩ => ⟨S_, .i32⟩
  | .hbm, ⟨108, _⟩ => ⟨S8, .i32⟩
  | .hbm, ⟨109, _⟩ => ⟨S8, .i1⟩
  | .hbm, ⟨110, _⟩ => ⟨S_, .i32⟩
  | .hbm, ⟨111, _⟩ => ⟨S8, .i32⟩
  | .hbm, ⟨112, _⟩ => ⟨S8, .i32⟩
  | .hbm, ⟨113, _⟩ => ⟨S_, .i32⟩
  | .hbm, ⟨114, _⟩ => ⟨S8, .i32⟩
  | .hbm, ⟨115, _⟩ => ⟨S8, .i32⟩
  | .hbm, ⟨116, _⟩ => ⟨S8, .i32⟩
  | .hbm, ⟨117, _⟩ => ⟨S4096x2048, .bf16⟩
  | .hbm, ⟨118, _⟩ => ⟨S4096x2048, .f32⟩
  | .hbm, ⟨119, _⟩ => ⟨S1x1, .f32⟩
  | .hbm, ⟨120, _⟩ => ⟨S1x1, .f32⟩
  | .hbm, ⟨121, _⟩ => ⟨S4096x2048, .f32⟩
  | .local _ .vmem, ⟨0, _⟩ => ⟨S1024x4096, .bf16⟩
  | .local _ .vmem, ⟨1, _⟩ => ⟨S8x512x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S4096x2048, .bf16⟩
  | .local _ .vmem, ⟨5, _⟩ => ⟨S512x2048, .f32⟩
  | .local _ .vmem, ⟨6, _⟩ => ⟨S512x2048, .f32⟩
  | .local _ .vmem, ⟨7, _⟩ => ⟨S4x8x128, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .smem, ⟨0, _⟩ => ⟨S8, .i32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨1, _⟩ => true
  | .smem, ⟨2, _⟩ => true
  | .smem, ⟨3, _⟩ => true
  | .smem, ⟨4, _⟩ => true
  | _, _ => false

abbrev semScoped : Fin 2 → Bool
  | ⟨0, _⟩ => false
  | ⟨1, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_c_2 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_c_3 : Ref sig .tc := ⟨.hbm, 53, rfl⟩
abbrev main_v12 : Ref sig .tc := ⟨.hbm, 54, rfl⟩
abbrev main_v13 : Ref sig .tc := ⟨.hbm, 55, rfl⟩
abbrev main_c_4 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_c_5 : Ref sig .tc := ⟨.hbm, 80, rfl⟩
abbrev main_v17 : Ref sig .tc := ⟨.hbm, 81, rfl⟩
abbrev main_v18 : Ref sig .tc := ⟨.hbm, 82, rfl⟩
abbrev main_c_6 : Ref sig .tc := ⟨.hbm, 83, rfl⟩
abbrev main_call3_v0 : Ref sig .tc := ⟨.hbm, 84, rfl⟩
abbrev main_call3_c : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_c_1 : Ref sig .tc := ⟨.hbm, 91, rfl⟩
abbrev main_call3_v5 : Ref sig .tc := ⟨.hbm, 92, rfl⟩
abbrev main_call3_v6 : Ref sig .tc := ⟨.hbm, 93, rfl⟩
abbrev main_call3_c_2 : Ref sig .tc := ⟨.hbm, 94, rfl⟩
abbrev main_call3_v7 : Ref sig .tc := ⟨.hbm, 95, rfl⟩
abbrev main_call3_v8 : Ref sig .tc := ⟨.hbm, 96, rfl⟩
abbrev main_call3_c_3 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_c_7 : Ref sig .tc := ⟨.hbm, 107, rfl⟩
abbrev main_v22 : Ref sig .tc := ⟨.hbm, 108, rfl⟩
abbrev main_v23 : Ref sig .tc := ⟨.hbm, 109, rfl⟩
abbrev main_c_8 : Ref sig .tc := ⟨.hbm, 110, rfl⟩
abbrev main_v24 : Ref sig .tc := ⟨.hbm, 111, rfl⟩
abbrev main_v25 : Ref sig .tc := ⟨.hbm, 112, rfl⟩
abbrev main_c_9 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_v30 : Ref sig .tc := ⟨.hbm, 117, rfl⟩
abbrev main_v31_0 : Ref sig .tc := ⟨.hbm, 118, rfl⟩
abbrev main_v31_1 : Ref sig .tc := ⟨.hbm, 119, rfl⟩
abbrev main_v32 : Ref sig .tc := ⟨.hbm, 120, rfl⟩
abbrev main_v33 : Ref sig .tc := ⟨.hbm, 121, rfl⟩
abbrev main_v29 : Ref sig .tc := ⟨.smem, 0, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc2_scratch0 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg2_0 : Ref sig .tc := ⟨.vmem, 10, rfl⟩
abbrev cc3_stg2_1 : Ref sig .tc := ⟨.vmem, 11, rfl⟩
abbrev cc1_stg3_0 : Ref sig .tc := ⟨.smem, 1, rfl⟩
abbrev cc2_stg0_0 : Ref sig .tc := ⟨.smem, 2, rfl⟩
abbrev cc2_stg1_0 : Ref sig .tc := ⟨.smem, 3, rfl⟩
abbrev cc3_stg1_0 : Ref sig .tc := ⟨.smem, 4, rfl⟩
abbrev cc0_sem0_0 : DmaSem sig := 0
abbrev cc0_sem1_0 : DmaSem sig := 1
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc2_sem0_0 : DmaSem sig := 20
abbrev cc2_sem1_0 : DmaSem sig := 21
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_13 : BitVec 32 := 1#32
  let v19 : BitVec 32 := Scalar.muli v7 c1_i32_13
  let v20 : BitVec 32 := Scalar.addi c0_i32 v19
  v20.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_15 : BitVec 32 := 1#32
  let v21 : BitVec 32 := Scalar.muli v4 c1_i32_15
  let v22 : BitVec 32 := Scalar.addi c0_i32_16 v21
  v22.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_21 : BitVec 32 := 1#32
  let v23 : BitVec 32 := Scalar.muli v4 c1_i32_21
  let v24 : BitVec 32 := Scalar.addi c0_i32_22 v23
  v24.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_30 : BitVec 32 := 1#32
  let v33 : BitVec 32 := Scalar.muli v7 c1_i32_30
  let v34 : BitVec 32 := Scalar.addi c0_i32_31 v33
  v34.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_77 : BitVec 32 := 1#32
  let v71 : BitVec 32 := Scalar.muli v4 c1_i32_77
  let v72 : BitVec 32 := Scalar.addi c0_i32_78 v71
  v72.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_86 : BitVec 32 := 1#32
  let v81 : BitVec 32 := Scalar.muli v7 c1_i32_86
  let v82 : BitVec 32 := Scalar.addi c0_i32_87 v81
  v82.toNat
def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_134 : BitVec 32 := 1#32
  let v119 : BitVec 32 := Scalar.muli v4 c1_i32_134
  let v120 : BitVec 32 := Scalar.addi c0_i32_135 v119
  v120.toNat
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_143 : BitVec 32 := 1#32
  let v129 : BitVec 32 := Scalar.muli v7 c1_i32_143
  let v130 : BitVec 32 := Scalar.addi c0_i32_144 v129
  v130.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![8], ![false]⟩

abbrev pre1 : Pipeline.Prefetch sig := ⟨1, ![main_v29.idx], fun | 0 => main_v29.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S8.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S8) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

def k2_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_10 : BitVec 32 := 1#32
  let v14 : BitVec 32 := Scalar.muli v7 c1_i32_10
  let v15 : BitVec 32 := Scalar.addi c0_i32 v14
  v15.toNat
def k2_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_12 : BitVec 32 := 1#32
  let v16 : BitVec 32 := Scalar.muli v4 c1_i32_12
  let v17 : BitVec 32 := Scalar.addi c0_i32_13 v16
  v17.toNat
def k2_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_18 : BitVec 32 := 1#32
  let v18 : BitVec 32 := Scalar.muli v4 c1_i32_18
  let v19 : BitVec 32 := Scalar.addi c0_i32_19 v18
  v19.toNat
def k2_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_47 : BitVec 32 := 1#32
  let v42 : BitVec 32 := Scalar.muli v4 c1_i32_47
  let v43 : BitVec 32 := Scalar.addi c0_i32_48 v42
  v43.toNat
def k2_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_75 : BitVec 32 := 1#32
  let v66 : BitVec 32 := Scalar.muli v4 c1_i32_75
  let v67 : BitVec 32 := Scalar.addi c0_i32_76 v66
  v67.toNat
abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .smem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Table.lean ====
module

public import proofs.«01_k».proof.Proof.Gen.KernelIdeal.Regions
public import Idealize.ShloMosaic.Lib.StableHlo.RunRead

@[expose] public section

noncomputable section

namespace Cert.Ring

open Cert.KernelIdeal Cert.KernelIdeal.Gen
open Idealize.ShloMosaic
open Idealize.ShloMosaic.TcCoe
open Idealize.SL.Sem

variable {F : FTy → Type} [FloatOps F]

/-- A vector of eight words. -/
abbrev W8 : Type := S8.Idx → BitVec 32
/-- One word eight times over. -/
def fill (x : BitVec 32) : W8 := fun _ => x
/-- Division rounding down, word by word, as the host computes it. -/
def fdiv (a : W8) (b : S_.Idx → BitVec 32) : W8 :=
  select (andi (cmpi .ne (signi a) (broadcastInDim S8 ![] bcast_S_S8 (signi b)))
      (cmpi .ne (Host.remsi a (broadcastInDim S8 ![] bcast_S_S8 b)) (broadcastInDim S8 ![] bcast_S_S8 (constantI S_ 32 0#32))))
    (subi (Host.divsi a (broadcastInDim S8 ![] bcast_S_S8 b)) (broadcastInDim S8 ![] bcast_S_S8 (constantI S_ 32 1#32)))
    (Host.divsi a (broadcastInDim S8 ![] bcast_S_S8 b))

/-- Remainder with the divisor's sign, word by word, as the host computes it. -/
def fmod (a : W8) (b : S_.Idx → BitVec 32) : W8 :=
  let b' : S_.Idx → BitVec 32 := select (cmpi .eq b (constantI S_ 32 0#32)) (constantI S_ 32 1#32) b
  let r : W8 := Host.remsi a (broadcastInDim S8 ![] bcast_S_S8 b')
  select (andi (cmpi .ne (cmpi .slt r (broadcastInDim S8 ![] bcast_S_S8 (constantI S_ 32 0#32)))
        (broadcastInDim S8 ![] bcast_S_S8 (cmpi .slt b' (constantI S_ 32 0#32))))
      (cmpi .ne r (broadcastInDim S8 ![] bcast_S_S8 (constantI S_ 32 0#32))))
    (addi r (broadcastInDim S8 ![] bcast_S_S8 b')) r

theorem stretch1 (V : Valuation τ sig (Elt F)) : StableHlo.after hostOps1_1 V main_v8 = fdiv (V main_v7) (V main_c_1) := by
  after_reads_simp
  simp only [StableHlo.TRef.ofBuf, StableHlo.TRef.toBuf, cast_cast, cast_eq, id, main_call0_call0]
  rfl
theorem stretch3 (V : Valuation τ sig (Elt F)) : StableHlo.after hostOps1_3 V main_v9 = fmod (V main_v7) (V main_c_2) := by
  after_reads_simp
  simp only [StableHlo.TRef.ofBuf, StableHlo.TRef.toBuf, cast_cast, cast_eq, id, main_call1_call0]
  rfl
theorem stretch5 (V : Valuation τ sig (Elt F)) : StableHlo.after hostOps1_5 V main_v14 = fmod (V main_v13) (V main_c_4) := by
  after_reads_simp
  simp only [StableHlo.TRef.ofBuf, StableHlo.TRef.toBuf, cast_cast, cast_eq, id, main_call2_call0]
  rfl
theorem stretch7 (V : Valuation τ sig (Elt F)) : StableHlo.after hostOps1_7 V main_v19 = fmod (V main_v18) (V main_c_6) := by
  after_reads_simp
  simp only [StableHlo.TRef.ofBuf, StableHlo.TRef.toBuf, cast_cast, cast_eq, id, main_call3_call0]
  rfl

/-- The device's own number, as the host computes it. -/
def me (c : Dev nD) : S_.Idx → BitVec 32 := Host.remui (Host.divui (constantI S_ 32 (Dev.word c)) (constantI S_ 32 1#32)) (constantI S_ 32 4#32)
/-- The word `x` as a host scalar. -/
abbrev word (x : BitVec 32) : S_.Idx → BitVec 32 := constantI S_ 32 x
/-- A host scalar eight times over. -/
abbrev all8 (x : S_.Idx → BitVec 32) : W8 := broadcastInDim S8 ![] bcast_S_S8 x
theorem stretch4 (V : Valuation τ sig (Elt F)) : StableHlo.after hostOps1_4 V main_v13 = subi (subi (all8 (V main_v6)) (V main_v8 : W8)) (all8 (word 1#32)) := by
  after_reads_simp
theorem stretch4c (V : Valuation τ sig (Elt F)) : StableHlo.after hostOps1_4 V main_c_4 = word 4#32 := by after_reads_simp
theorem stretch6 (V : Valuation τ sig (Elt F)) : StableHlo.after hostOps1_6 V main_v18 = subi (subi (V main_v8 : W8) (all8 (V main_v6))) (all8 (word 1#32)) := by
  after_reads_simp
theorem stretch6c (V : Valuation τ sig (Elt F)) : StableHlo.after hostOps1_6 V main_c_6 = word 4#32 := by after_reads_simp
theorem stretch8a (V : Valuation τ sig (Elt F)) : StableHlo.after hostOps1_8 V main_v21 = cmpi .eq (V main_v8 : W8) (all8 (V main_v6)) := by after_reads_simp
theorem stretch8b (V : Valuation τ sig (Elt F)) : StableHlo.after hostOps1_8 V main_v23 = cmpi .eq (V main_v9 : W8) (all8 (word 1#32)) := by after_reads_simp
theorem stretch8c (V : Valuation τ sig (Elt F)) : StableHlo.after hostOps1_8 V main_v25 = addi (all8 (word 2#32)) (V main_v14 : W8) := by after_reads_simp
theorem stretch8d (V : Valuation τ sig (Elt F)) : StableHlo.after hostOps1_8 V main_v27 = addi (all8 (word 5#32)) (V main_v19 : W8) := by after_reads_simp
theorem stretch9 (V : Valuation τ sig (Elt F)) : StableHlo.after hostOps1_9 V main_v28 = select (V main_v23) (V main_v25 : W8) (V main_v27 : W8) := by
  after_reads_simp
  simp only [StableHlo.TRef.ofBuf, StableHlo.TRef.toBuf, cast_cast, cast_eq]
theorem stretch10 (V : Valuation τ sig (Elt F)) : StableHlo.after hostOps1_10 V main_v29 = select (V main_v21) (V main_v9 : W8) (V main_v28 : W8) := by
  after_reads_simp
  simp only [StableHlo.TRef.ofBuf, StableHlo.TRef.toBuf, cast_cast, cast_eq]

/-- The table device `c` hands to the product: the slot of the gathered array that holds each block of rows. -/
def perm (c : Dev nD) : W8 :=
  let g : W8 := iotaInDim S8 32 0
  let d := fdiv g (word 2#32)
  let h := fmod g (word 2#32)
  select (cmpi .eq d (all8 (me c))) h
    (select (cmpi .eq h (all8 (word 1#32)))
      (addi (all8 (word 2#32)) (fmod (subi (subi (all8 (me c)) d) (all8 (word 1#32))) (word 4#32)))
      (addi (all8 (word 5#32)) (fmod (subi (subi d (all8 (me c))) (all8 (word 1#32))) (word 4#32))))

variable (m : (ℓ : Loc nD τ sig) → Buf (Elt F) ℓ) (outs : Outs (F := F))

theorem table (c : Dev nD) : V14 m outs c main_v29 = perm c := by
  have h6 : V3 m outs c main_v6 = me c := by after_reads_simp; rfl
  have h7 : V3 m outs c main_v7 = iotaInDim S8 32 0 := by after_reads_simp
  have h8 : V4 m outs c main_v8 = fdiv (iotaInDim S8 32 0) (word 2#32) := by
    rw [show V4 m outs c main_v8 = _ from stretch1 _, h7]
    congr 1
  have h9 : V6 m outs c main_v9 = fmod (iotaInDim S8 32 0) (word 2#32) := by
    rw [show V6 m outs c main_v9 = _ from stretch3 _, V5_of m outs c main_v7 (by decide), V4_of m outs c main_v7 (by decide), h7]
    congr 1
  have h13 : V7 m outs c main_v13 = subi (subi (all8 (me c)) (fdiv (iotaInDim S8 32 0) (word 2#32))) (all8 (word 1#32)) := by
    rw [show V7 m outs c main_v13 = _ from stretch4 _, V6_of m outs c main_v6 (by decide), V5_of m outs c main_v6 (by decide), V4_of m outs c main_v6 (by decide), h6, V6_of m outs c main_v8 (by decide), V5_of m outs c main_v8 (by decide), h8]
  have h14 : V8 m outs c main_v14 = fmod (subi (subi (all8 (me c)) (fdiv (iotaInDim S8 32 0) (word 2#32))) (all8 (word 1#32))) (word 4#32) := by
    rw [show V8 m outs c main_v14 = _ from stretch5 _, h13, show V7 m outs c main_c_4 = _ from stretch4c _]
  have h18 : V9 m outs c main_v18 = subi (subi (fdiv (iotaInDim S8 32 0) (word 2#32)) (all8 (me c))) (all8 (word 1#32)) := by
    rw [show V9 m outs c main_v18 = _ from stretch6 _, V8_of m outs c main_v6 (by decide), V7_of m outs c main_v6 (by decide), V6_of m outs c main_v6 (by decide), V5_of m outs c main_v6 (by decide), V4_of m outs c main_v6 (by decide), h6, V8_of m outs c main_v8 (by decide), V7_of m outs c main_v8 (by decide), V6_of m outs c main_v8 (by decide), V5_of m outs c main_v8 (by decide), h8]
  have h19 : V10 m outs c main_v19 = fmod (subi (subi (fdiv (iotaInDim S8 32 0) (word 2#32)) (all8 (me c))) (all8 (word 1#32))) (word 4#32) := by
    rw [show V10 m outs c main_v19 = _ from stretch7 _, h18, show V9 m outs c main_c_6 = _ from stretch6c _]
  rw [V14_of m outs c main_v29 (by decide), show V13 m outs c main_v29 = _ from stretch10 _, show V12 m outs c main_v28 = _ from stretch9 _,
    V12_of m outs c main_v21 (by decide), V12_of m outs c main_v9 (by decide), V11_of m outs c main_v9 (by decide), V10_of m outs c main_v9 (by decide), V9_of m outs c main_v9 (by decide), V8_of m outs c main_v9 (by decide), V7_of m outs c main_v9 (by decide), h9,
    show V11 m outs c main_v21 = _ from stretch8a _, show V11 m outs c main_v23 = _ from stretch8b _, show V11 m outs c main_v25 = _ from stretch8c _, show V11 m outs c main_v27 = _ from stretch8d _,
    V10_of m outs c main_v8 (by decide), V9_of m outs c main_v8 (by decide), V8_of m outs c main_v8 (by decide), V7_of m outs c main_v8 (by decide), V6_of m outs c main_v8 (by decide), V5_of m outs c main_v8 (by decide), h8, V10_of m outs c main_v6 (by decide), V9_of m outs c main_v6 (by decide), V8_of m outs c main_v6 (by decide), V7_of m outs c main_v6 (by decide), V6_of m outs c main_v6 (by decide), V5_of m outs c main_v6 (by decide), V4_of m outs c main_v6 (by decide), h6, V10_of m outs c main_v9 (by decide), V9_of m outs c main_v9 (by decide), V8_of m outs c main_v9 (by decide), V7_of m outs c main_v9 (by decide), h9, V10_of m outs c main_v14 (by decide), V9_of m outs c main_v14 (by decide), h14, h19]
  rfl

/-- Block `g` of rows belongs to device `g / 2` and is its half `g % 2`; device `c` finds it in this slot. -/
def slotOf (c : Dev nD) (g : Fin 8) : ℕ :=
  if g.val / 2 = c.val then g.val % 2
  else if g.val % 2 = 1 then 2 + (c.val + 7 - g.val / 2) % 4 else 5 + (g.val / 2 + 7 - c.val) % 4
theorem perm_val : ∀ (c : Dev nD) (i : S8.Idx), perm c i = BitVec.ofNat 32 (slotOf c (i 0)) := by decide +kernel
theorem slotOf_lt : ∀ (c : Dev nD) (g : Fin 8), slotOf c g < 8 := by decide

end Cert.Ring

end

end
-- ==== Proof.Protocol.lean ====
/-
# The two collectives' protocol

Region 0 gathers the rows of `x` round the ring of four devices in both directions at once; region 2 sends the largest
entry of `|y|` once round the ring. Both talk through semaphore cells: per device two barrier cells, open from the start,
and eighteen DMA cells, which the regions own and which lie dormant in between. Everything the cells hand over is stated
here, over any float values: the slots of the two landing buffers, what each slot holds in the end, the schedule of
payments, what a device owes at the start, and the levels which order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The protocol's copy of the rounds algebra: two duties per cell and round. -/
abbrev UB : Type := URounds (GSem nD τ sig) Bool
/-- The resource algebra: the pipeline's copy and the protocol's. -/
abbrev UU : Type := UR sig nD τ × UB

local notation "𝕄" => MT nD τ sig Unit (Elt F) ℕ UU ℕ

/-- The pipeline's part of the algebra. -/
abbrev EP : Emb (UR sig nD τ) (MT nD τ sig Unit (Elt F) ℕ UU ℕ) := embL
/-- The protocol's part of the algebra. -/
abbrev ER : Emb UB (MT nD τ sig Unit (Elt F) ℕ UU ℕ) := embR

/-! ## The ring -/

/-- The right neighbour. -/
def nxt (c : Dev nD) : Dev nD := ⟨(c.val + 1) % 4, Nat.mod_lt _ (Nat.succ_pos 3)⟩
/-- The left neighbour. -/
def prv (c : Dev nD) : Dev nD := ⟨(c.val + 3) % 4, Nat.mod_lt _ (Nat.succ_pos 3)⟩
theorem prv_nxt (c : Dev nD) : prv (nxt c) = c := by revert c; decide
theorem nxt_prv (c : Dev nD) : nxt (prv c) = c := by revert c; decide
/-- The ring as a permutation of the devices. -/
def ring : Dev nD ≃ Dev nD := ⟨nxt, prv, prv_nxt, nxt_prv⟩

/-! ## The slots of the two landing buffers -/

theorem inb0 (k : ℕ) (hk : k < 8) (a : Fin 3) : (![k, 0, 0] : Fin 3 → ℕ) a + S1x512x4096.size a ≤ S8x512x4096.size a := by
  fin_cases a <;> simp [S1x512x4096, S8x512x4096] <;> omega
theorem inb2 (k : ℕ) (hk : k < 4) (a : Fin 3) : (![k, 0, 0] : Fin 3 → ℕ) a + S1x8x128.size a ≤ S4x8x128.size a := by
  fin_cases a <;> simp [S1x8x128, S4x8x128] <;> omega

/-- Rows `k` of the gathered buffer, as a rectangle. -/
abbrev rect0 (k : ℕ) (hk : k < 8 := by decide) : Rect S8x512x4096 := Rect.unit (s := S8x512x4096) ![k, 0, 0] S1x512x4096.size (inb0 k hk)
/-- Tile `k` of the reduction's buffer, as a rectangle. -/
abbrev rect2 (k : ℕ) (hk : k < 4 := by decide) : Rect S4x8x128 := Rect.unit (s := S4x8x128) ![k, 0, 0] S1x8x128.size (inb2 k hk)
/-- Slot `k` of the gathered buffer: half a device's rows. -/
abbrev slot0 (k : ℕ) (hk : k < 8 := by decide) : Memref sig .tc .vmem S512x4096 .bf16 :=
  ((Memref.whole cc0_stg1_0).slice (rect0 k hk) (fun _ => rfl)).squeeze S512x4096 squeezes_S1x512x4096_S512x4096
/-- Slot `k` of the reduction's buffer: one device's number, on a whole tile. -/
abbrev slot2 (k : ℕ) (hk : k < 4 := by decide) : Memref sig .tc .vmem S8x128 .f32 :=
  ((Memref.whole cc2_scratch0).slice (rect2 k hk) (fun _ => rfl)).squeeze S8x128 squeezes_S1x8x128_S8x128

/-- What the gathered buffer is a function on. -/
abbrev AgC (F : FTy → Type) : Type := (cc0_stg1_0 : Ref sig .tc).ty.Contents (Elt F)
/-- What the reduction's buffer is a function on. -/
abbrev CmC (F : FTy → Type) : Type := (cc2_scratch0 : Ref sig .tc).ty.Contents (Elt F)

/-- Device `c`'s slot `k` of the gathered buffer, the whole buffer's contents being `f`. -/
def pts0 (c : Dev nD) (k : ℕ) (f : AgC F) (hk : k < 8 := by decide) : sProp 𝕄 :=
  (slot0 k hk).view.loc (c : Thread nD τ) ↦[(slot0 k hk).view.set]{fullShare} f
/-- Device `c`'s slot `k` of the reduction's buffer, the whole buffer's contents being `f`. -/
def pts2 (c : Dev nD) (k : ℕ) (f : CmC F) (hk : k < 4 := by decide) : sProp 𝕄 :=
  (slot2 k hk).view.loc (c : Thread nD τ) ↦[(slot2 k hk).view.set]{fullShare} f

instance pts0_storable (c : Dev nD) (k : ℕ) (f : AgC F) (hk : k < 8) : BI.Storable (upEmb : UEmb _ 𝕄) (pts0 c k f hk) := by
  unfold pts0; infer_instance
instance pts2_storable (c : Dev nD) (k : ℕ) (f : CmC F) (hk : k < 4) : BI.Storable (upEmb : UEmb _ 𝕄) (pts2 c k f hk) := by
  unfold pts2; infer_instance

/-! ## What the buffers hold in the end -/

/-- The device whose rows slot `k` of device `c` receives: `c` itself in slots 0 and 1, the devices to the left, nearest
    first, in slots 2 to 4, those to the right in 5 to 7. -/
def srcDev (c : Dev nD) (k : ℕ) : Dev nD :=
  match k with
  | 0 => c | 1 => c
  | 2 => prv c | 3 => prv (prv c) | 4 => prv (prv (prv c))
  | 5 => nxt c | 6 => nxt (nxt c) | 7 => nxt (nxt (nxt c))
  | _ => c
/-- Which half of that device's rows: the upper half travels right, the lower half left. -/
def srcHalf (k : ℕ) : ℕ := if k = 0 then 0 else if k < 5 then 1 else 0
theorem srcHalf_lt (k : ℕ) : srcHalf k < 2 := by unfold srcHalf; split_ifs <;> decide

/-- Row `r` of half `h`, column `j`, as an index of a device's rows of `x`. -/
def rowIx (h : ℕ) (hh : h < 2) (r : Fin 512) (j : Fin 4096) : S1024x4096.Idx
  | ⟨0, _⟩ => ⟨h * 512 + r.val, by show _ < 1024; omega⟩
  | ⟨1, _⟩ => j

/-- What device `c`'s gathered buffer holds when the rows of device `d` are `X d`. -/
def ag (X : Dev nD → S1024x4096.Idx → Elt F .bf16) (c : Dev nD) : AgC F := fun (i : S8x512x4096.Idx) =>
  X (srcDev c (i 0).val) (rowIx (srcHalf (i 0).val) (srcHalf_lt _) (i 1) (i 2))
/-- The device whose number slot `k` of device `c` receives. -/
def srcDev2 (c : Dev nD) (k : ℕ) : Dev nD :=
  match k with
  | 0 => c | 1 => prv c | 2 => prv (prv c) | _ => prv (prv (prv c))
/-- What device `c`'s reduction buffer holds when device `d`'s number is `A d`. -/
def cm (A : Dev nD → Elt F .f32) (c : Dev nD) : CmC F := fun (i : S4x8x128.Idx) => A (srcDev2 c (i 0).val)

/-! ## The cells -/

/-- DMA semaphore `q`. -/
abbrev dq (q : ℕ) (h : q < 34 := by decide) : DmaSem sig := ⟨q, h⟩
/-- Device `c`'s DMA cell `q`. -/
abbrev dcell (c : Dev nD) (q : DmaSem sig) : GSem nD τ sig := ((c : Thread nD τ), .dma q)
/-- Device `c`'s barrier cell `b`. -/
abbrev bcell (c : Dev nD) (b : Sem sig) : GSem nD τ sig := ((c : Thread nD τ), .reg b)
/-- The two barriers. -/
abbrev bar0 : Sem sig := 0
abbrev bar1 : Sem sig := 1

/-- The DMA semaphores of the protocol. -/
def isSc (q : ℕ) : Bool := (2 ≤ q && q ≤ 13) || (23 ≤ q && q ≤ 28)

/-- The bytes' credit of one transfer of region 0, of region 2. -/
abbrev N0 : ℕ := (slot0 0).view.dmaCredit
abbrev N2 : ℕ := (slot2 0).view.dmaCredit
theorem N0_pos : 0 < N0 := View.dmaCredit_pos _ (by decide)
theorem N2_pos : 0 < N2 := View.dmaCredit_pos _ (by decide)
/-- The credit of a transfer on DMA semaphore `q`. -/
def amt (q : ℕ) : ℕ := if q < 20 then N0 else N2
theorem amt_pos (q : ℕ) : 0 < amt q := by unfold amt; split_ifs; exacts [N0_pos, N2_pos]

section Sched

variable (X : Dev nD → S1024x4096.Idx → Elt F .bf16) (A : Dev nD → Elt F .f32)

/-- Handed over with a signal of the first barrier: by the right neighbour, its slots 2 to 4, the targets of what travels
    right. -/
def bar0R (d : Dev nD) : sProp 𝕄 :=
  iprop(((∃ f, pts0 d 2 f) ∗ (∃ f, pts0 d 3 f) ∗ ∃ f, pts0 d 4 f)
    ∗ reached ER (dcell d (dq 5)) 0 ∗ reached ER (dcell d (dq 6)) 0 ∗ reached ER (dcell d (dq 7)) 0)
/-- By the left neighbour, its slots 5 to 7. -/
def bar0L (d : Dev nD) : sProp 𝕄 :=
  iprop(((∃ f, pts0 d 5 f) ∗ (∃ f, pts0 d 6 f) ∗ ∃ f, pts0 d 7 f)
    ∗ reached ER (dcell d (dq 11)) 0 ∗ reached ER (dcell d (dq 12)) 0 ∗ reached ER (dcell d (dq 13)) 0)
/-- With the second barrier's: by the right neighbour, the three slots others fill. -/
def bar1R (d : Dev nD) : sProp 𝕄 :=
  iprop(((∃ f, pts2 d 1 f) ∗ (∃ f, pts2 d 2 f) ∗ ∃ f, pts2 d 3 f)
    ∗ reached ER (dcell d (dq 26)) 0 ∗ reached ER (dcell d (dq 27)) 0 ∗ reached ER (dcell d (dq 28)) 0)

/-- What a landed transfer on DMA semaphore `q` of device `c` hands back: a send its source slot, a receive its target. -/
def dmaPay (c : Dev nD) : ℕ → sProp 𝕄
  | 2 => pts0 c 1 (ag X c) | 3 => pts0 c 2 (ag X c) | 4 => pts0 c 3 (ag X c)
  | 5 => pts0 c 2 (ag X c) | 6 => pts0 c 3 (ag X c) | 7 => pts0 c 4 (ag X c)
  | 8 => pts0 c 0 (ag X c) | 9 => pts0 c 5 (ag X c) | 10 => pts0 c 6 (ag X c)
  | 11 => pts0 c 5 (ag X c) | 12 => pts0 c 6 (ag X c) | 13 => pts0 c 7 (ag X c)
  | 23 => pts2 c 0 (cm A c) | 24 => pts2 c 1 (cm A c) | 25 => pts2 c 2 (cm A c)
  | 26 => pts2 c 1 (cm A c) | 27 => pts2 c 2 (cm A c) | 28 => pts2 c 3 (cm A c)
  | _ => iprop(emp)

/-- What a barrier signal hands over: duty `true` is the right neighbour's. -/
def barPay (c : Dev nD) (b : Sem sig) (d : Bool) : sProp 𝕄 :=
  if b.val = 0 then (if d = true then bar0R (nxt c) else bar0L (prv c)) else (if d = true then bar1R (nxt c) else iprop(emp))

/-- Who pays what: one round on every cell, a barrier cell paid by both neighbours, a DMA cell by its transfer. -/
def Rd : Rounds.Schedule (GSem nD τ sig) Bool 𝕄 where
  duties g r := match g.2 with
    | .reg _ => if r = 0 ∧ g.1.2 = .tc then Finset.univ else ∅
    | .dma q => if r = 0 ∧ g.1.2 = .tc ∧ isSc q.val = true then {false} else ∅
  unitless _ := False
  amount g _ _ := match g.2 with
    | .reg _ => 1
    | .dma q => amt q.val
  payload g _ d := match g.2 with
    | .reg b => barPay g.1.1 b d
    | .dma q => dmaPay X A g.1.1 q.val
  amount_pos g _ _ _ := by
    rcases g with ⟨t, b | q⟩
    · exact Nat.one_pos
    · exact amt_pos _

instance dmaPay_storable (c : Dev nD) (q : ℕ) : BI.Storable (upEmb : UEmb _ 𝕄) (dmaPay X A c q) := by
  unfold dmaPay; split <;> infer_instance
instance barPay_storable (c : Dev nD) (b : Sem sig) (d : Bool) : BI.Storable (upEmb : UEmb _ 𝕄) (barPay (F := F) c b d) := by
  unfold barPay bar0R bar0L bar1R; (repeat' split) <;> infer_instance
instance Rd_storable (g : GSem nD τ sig) (r : ℕ) (d : Bool) : BI.Storable (upEmb : UEmb _ 𝕄) ((Rd X A).payload g r d) := by
  rcases g with ⟨t, b | q⟩
  · show BI.Storable upEmb (barPay t.1 b d); infer_instance
  · show BI.Storable upEmb (dmaPay X A t.1 q.val); infer_instance

theorem duties_bar (c : Dev nD) (b : Sem sig) : (Rd X A).duties (bcell c b) 0 = Finset.univ := by
  dsimp only [Rd]; exact if_pos ⟨rfl, rfl⟩
theorem duties_dma (c : Dev nD) (q : DmaSem sig) (h : isSc q.val = true) : (Rd X A).duties (dcell c q) 0 = {false} := by
  dsimp only [Rd]; exact if_pos ⟨rfl, rfl, h⟩
theorem duties_later (g : GSem nD τ sig) : ∀ r, 1 ≤ r → (Rd X A).duties g r = ∅ := fun r hr => by
  rcases g with ⟨t, b | q⟩
  · exact if_neg fun h => by omega
  · exact if_neg fun h => by omega
theorem expect_bar (c : Dev nD) (b : Sem sig) : (Rd X A).expect (bcell c b) 0 = 2 := by
  unfold Schedule.expect Schedule.amountOf
  rw [duties_bar]; rfl
theorem expect_dma (c : Dev nD) (q : DmaSem sig) (h : isSc q.val = true) : (Rd X A).expect (dcell c q) 0 = amt q.val := by
  unfold Schedule.expect Schedule.amountOf
  rw [duties_dma X A c q h, Finset.sum_singleton]; rfl

theorem rest_bar (c : Dev nD) (b : Sem sig) :
    bigSep ((Rd X A).duties (bcell c b) 0 \ ∅) (fun d => (Rd X A).payload (bcell c b) 0 d) = iprop(barPay (F := F) c b false ∗ barPay c b true) := by
  rw [Finset.sdiff_empty, duties_bar, bigSep_univ_eq_bigSepL [false, true] (by decide) (by decide), bigSepL_cons_cons, bigSepL_singleton]
  rfl
theorem rest_dma (c : Dev nD) (q : DmaSem sig) (h : isSc q.val = true) :
    bigSep ((Rd X A).duties (dcell c q) 0 \ ∅) (fun d => (Rd X A).payload (dcell c q) 0 d) = dmaPay X A c q.val := by
  rw [Finset.sdiff_empty, duties_dma X A c q h, bigSep_singleton]; rfl

end Sched

/-! ## Dues and levels -/

/-- A list of dues, first to be paid first. -/
def tal : List (GSem nD τ sig × ℕ) → CellTallies nD τ sig Unit
  | [] => 0
  | x :: l => tal l + tallyAt x.1 () x.2

/-- What device `c` owes from region 2 on: the second barrier of both neighbours, its three transfers to the right. -/
def dues2 (c : Dev nD) : List (GSem nD τ sig × ℕ) :=
  [(bcell (prv c) bar1, 1), (bcell (nxt c) bar1, 1), (dcell (nxt c) (dq 26), N2), (dcell (nxt c) (dq 27), N2), (dcell (nxt c) (dq 28), N2)]
/-- What device `c` owes at the start: the first barrier of both neighbours, its six transfers, and region 2's dues. -/
def dues0 (c : Dev nD) : List (GSem nD τ sig × ℕ) :=
  (bcell (prv c) bar0, 1) :: (bcell (nxt c) bar0, 1) ::
  (dcell (nxt c) (dq 5), N0) :: (dcell (prv c) (dq 11), N0) ::
  (dcell (nxt c) (dq 6), N0) :: (dcell (prv c) (dq 12), N0) ::
  (dcell (nxt c) (dq 7), N0) :: (dcell (prv c) (dq 13), N0) :: dues2 c

/-- The level of a semaphore: a wait is allowed while everything owed lies above it. -/
def lvl : SemLoc sig → ℕ
  | .reg b => if b.val = 0 then 1 else 5
  | .dma q => match q.val with
    | 5 => 2 | 11 => 2 | 6 => 3 | 12 => 3 | 7 => 4 | 13 => 4 | 26 => 6 | 27 => 7 | 28 => 8
    | _ => 0
/-- Every TensorCore cell has a level. -/
def L (g : GSem nD τ sig) : Finset Unit := if g.1.2 = .tc then {()} else ∅
/-- The level of a cell. -/
def lv (g : GSem nD τ sig) (_ : Unit) : ℕ := lvl g.2
theorem L_of_ne (g : GSem nD τ sig) (h : g.1.2 ≠ .tc) : L g = ∅ := if_neg h
theorem mem_L (g : GSem nD τ sig) (h : g.1.2 = .tc) (u : Unit) : u ∈ L g := by unfold L; rw [if_pos h]; exact Finset.mem_singleton_self _

/-- The units a list of dues holds for one cell. -/
def cnt (g : GSem nD τ sig) : List (GSem nD τ sig × ℕ) → ℕ
  | [] => 0
  | x :: l => cnt g l + if g = x.1 then x.2 else 0
theorem tal_apply (l : List (GSem nD τ sig × ℕ)) (g : GSem nD τ sig) (u : Unit) : tal l g u = cnt g l := by
  induction l with
  | nil => rfl
  | cons x l ih =>
    show (tal l + tallyAt x.1 () x.2) g u = _
    rw [Pi.add_apply, Finsupp.add_apply, ih, tallyAt_apply]
    show _ = cnt g l + if g = x.1 then x.2 else 0
    congr 1
    by_cases h : g = x.1
    · rw [if_pos ⟨h, rfl⟩, if_pos h]
    · rw [if_neg (fun h' => h h'.1), if_neg h]
/-- A cell something is owed to is one of the list's. -/
theorem tal_pos {l : List (GSem nD τ sig × ℕ)} {g : GSem nD τ sig} {u : Unit} (h : 0 < tal l g u) : ∃ x ∈ l, g = x.1 := by
  rw [tal_apply] at h
  induction l with
  | nil => exact absurd h (Nat.lt_irrefl 0)
  | cons x l ih =>
    by_cases hx : g = x.1
    · exact ⟨x, List.mem_cons_self, hx⟩
    · unfold cnt at h; rw [if_neg hx] at h
      obtain ⟨y, hy, e⟩ := ih h
      exact ⟨y, List.mem_cons_of_mem _ hy, e⟩

/-- Waiting on a cell below everything owed is allowed. -/
theorem mayWait (c : Dev nD) (sm : SemLoc sig) (l : List (GSem nD τ sig × ℕ)) (h : ∀ x ∈ l, x.1.1.2 = .tc ∧ lvl sm < lvl x.1.2) :
    (levAts L lv : sProp 𝕄) ⊢ MayWait (c : Thread nD τ) sm () (tal l) :=
  MayOwe.of_cut (L := L) (lev := lv) (lvl sm) (fun p hp => by rw [Finset.mem_singleton.mp hp]; exact mem_L _ rfl _)
    (fun g u hg => by obtain ⟨x, hx, rfl⟩ := tal_pos hg; exact mem_L _ (h x hx).1 _)
    (fun p hp => by rw [Finset.mem_singleton.mp hp]; exact Nat.le_refl _)
    (fun g u hg => by obtain ⟨x, hx, rfl⟩ := tal_pos hg; exact (h x hx).2)

end Cert.Ring

end

end
-- ==== Proof.Slots.lean ====
/-
# The slots of the landing buffers, element by element

Where a slot's elements lie in its buffer, that the slots of a buffer are disjoint and cover it, that a slot's worth of a
neighbour's buffer landing in a slot is what the final contents say there, and that the two stores which open region 0,
and the one which opens region 2, fill the device's own slots as the final contents say.
-/
module

public import proofs.«01_k».proof.Proof.Protocol
public import Idealize.ShloMosaic.Lib.Pipeline.Value

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- Index `(k, r, j)` of the gathered buffer. -/
def ix0 (k : ℕ) (hk : k < 8) (i : S512x4096.Idx) : S8x512x4096.Idx
  | ⟨0, _⟩ => ⟨k, hk⟩
  | ⟨1, _⟩ => i 0
  | ⟨2, _⟩ => i 1
/-- Index `(k, r, j)` of the reduction's buffer. -/
def ix2' (k : ℕ) (hk : k < 4) (i : S8x128.Idx) : S4x8x128.Idx
  | ⟨0, _⟩ => ⟨k, hk⟩
  | ⟨1, _⟩ => i 0
  | ⟨2, _⟩ => i 1

theorem emb0 (k : ℕ) (hk : k < 8) (i : S512x4096.Idx) : (slot0 k hk).view.emb i = ix0 k hk i := by
  show (rect0 k hk).emb (Shape.reshapeEquiv squeezes_S1x512x4096_S512x4096.numel_eq i) = _
  rw [show Shape.reshapeEquiv squeezes_S1x512x4096_S512x4096.numel_eq i = (Fin.cons (⟨0, Nat.one_pos⟩ : Fin 1) i : S1x512x4096.Idx)
    from Shape.reshapeEquiv_cons_one _ _]
  refine funext fun a => Fin.ext ?_
  rw [Rect.emb_apply]
  fin_cases a
  · show k + 1 * 0 = k; omega
  · show 0 + 1 * (i 0).val = (i 0).val; omega
  · show 0 + 1 * (i 1).val = (i 1).val; omega
theorem emb2 (k : ℕ) (hk : k < 4) (i : S8x128.Idx) : (slot2 k hk).view.emb i = ix2' k hk i := by
  show (rect2 k hk).emb (Shape.reshapeEquiv squeezes_S1x8x128_S8x128.numel_eq i) = _
  rw [show Shape.reshapeEquiv squeezes_S1x8x128_S8x128.numel_eq i = (Fin.cons (⟨0, Nat.one_pos⟩ : Fin 1) i : S1x8x128.Idx)
    from Shape.reshapeEquiv_cons_one _ _]
  refine funext fun a => Fin.ext ?_
  rw [Rect.emb_apply]
  fin_cases a
  · show k + 1 * 0 = k; omega
  · show 0 + 1 * (i 0).val = (i 0).val; omega
  · show 0 + 1 * (i 1).val = (i 1).val; omega

/-- The elements of a slot of the gathered buffer are those of its first coordinate. -/
theorem mem_slot0 (k : ℕ) (hk : k < 8) (i : S8x512x4096.Idx) : i ∈ (slot0 k hk).view.set ↔ (i 0).val = k := by
  constructor
  · intro h
    obtain ⟨x, -, rfl⟩ := Finset.mem_map.mp h
    rw [emb0]; rfl
  · intro h
    refine Finset.mem_map.mpr ⟨fun | ⟨0, _⟩ => i 1 | ⟨1, _⟩ => i 2, Finset.mem_univ _, ?_⟩
    rw [emb0]
    refine funext fun a => ?_
    fin_cases a
    · exact Fin.ext h.symm
    · rfl
    · rfl
/-- The elements of a slot of the reduction's buffer are those of its first coordinate. -/
theorem mem_slot2 (k : ℕ) (hk : k < 4) (i : S4x8x128.Idx) : i ∈ (slot2 k hk).view.set ↔ (i 0).val = k := by
  constructor
  · intro h
    obtain ⟨x, -, rfl⟩ := Finset.mem_map.mp h
    rw [emb2]; rfl
  · intro h
    refine Finset.mem_map.mpr ⟨fun | ⟨0, _⟩ => i 1 | ⟨1, _⟩ => i 2, Finset.mem_univ _, ?_⟩
    rw [emb2]
    refine funext fun a => ?_
    fin_cases a
    · exact Fin.ext h.symm
    · rfl
    · rfl

/-- A slot's contents matter on its elements only. -/
theorem pts0_congr (c : Dev nD) (k : ℕ) (hk : k < 8) (f g : AgC F) (h : ∀ i : S8x512x4096.Idx, (i 0).val = k → f i = g i) :
    (pts0 c k f hk : sProp 𝕄) = pts0 c k g hk :=
  pointsTo_congr fun i hi => h i ((mem_slot0 k hk i).mp hi)
theorem pts2_congr (c : Dev nD) (k : ℕ) (hk : k < 4) (f g : CmC F) (h : ∀ i : S4x8x128.Idx, (i 0).val = k → f i = g i) :
    (pts2 c k f hk : sProp 𝕄) = pts2 c k g hk :=
  pointsTo_congr fun i hi => h i ((mem_slot2 k hk i).mp hi)

variable (X : Dev nD → S1024x4096.Idx → Elt F .bf16) (A : Dev nD → Elt F .f32)

theorem rowIx_congr {h h' : ℕ} (e : h = h') {hh : h < 2} {hh' : h' < 2} (r : Fin 512) (j : Fin 4096) : rowIx h hh r j = rowIx h' hh' r j := by
  subst e; rfl

/-- Slot `k` of device `c` landing in slot `k'` of device `n` is what the final contents say there, when both receive the
    same device's same half. -/
theorem landed0 (c n : Dev nD) (k k' : ℕ) (hk : k < 8) (hk' : k' < 8) (hd : srcDev n k' = srcDev c k) (hh : srcHalf k' = srcHalf k) (fd : AgC F) :
    ((slot0 k' hk').view.loc (n : Thread nD τ) ↦[(slot0 k' hk').view.set]{fullShare}
        ((slot0 k' hk').view.write (Elt F) fd ((slot0 k hk).view.read (Elt F) (ag X c)) Finset.univ) : sProp 𝕄) = pts0 n k' (ag X n) hk' :=
  pointsTo_congr fun i hi => by
    obtain ⟨x, -, rfl⟩ := Finset.mem_map.mp hi
    rw [View.write_emb_of_mem _ _ (Finset.mem_univ _), View.read_apply, emb0, emb0]
    show X (srcDev c k) (rowIx (srcHalf k) _ (x 0) (x 1)) = X (srcDev n k') (rowIx (srcHalf k') _ (x 0) (x 1))
    rw [hd]; exact congrArg (X _) (rowIx_congr hh.symm _ _)
theorem landed2 (c n : Dev nD) (k k' : ℕ) (hk : k < 4) (hk' : k' < 4) (hd : srcDev2 n k' = srcDev2 c k) (fd : CmC F) :
    ((slot2 k' hk').view.loc (n : Thread nD τ) ↦[(slot2 k' hk').view.set]{fullShare}
        ((slot2 k' hk').view.write (Elt F) fd ((slot2 k hk).view.read (Elt F) (cm A c)) Finset.univ) : sProp 𝕄) = pts2 n k' (cm A n) hk' :=
  pointsTo_congr fun i hi => by
    obtain ⟨x, -, rfl⟩ := Finset.mem_map.mp hi
    rw [View.write_emb_of_mem _ _ (Finset.mem_univ _), View.read_apply, emb2, emb2]
    show A (srcDev2 c k) = A (srcDev2 n k')
    rw [hd]

/-! ## A buffer is its slots -/

/-- The elements of slot `k`. -/
def elts0 (k : Fin 8) : Finset S8x512x4096.Idx := (slot0 k.val k.isLt).view.set
def elts2 (k : Fin 4) : Finset S4x8x128.Idx := (slot2 k.val k.isLt).view.set
theorem cover0 : Finset.univ.biUnion elts0 = Finset.univ :=
  Finset.eq_univ_of_forall fun (i : S8x512x4096.Idx) => Finset.mem_biUnion.mpr ⟨i 0, Finset.mem_univ _, (mem_slot0 _ _ i).mpr rfl⟩
theorem cover2 : Finset.univ.biUnion elts2 = Finset.univ :=
  Finset.eq_univ_of_forall fun (i : S4x8x128.Idx) => Finset.mem_biUnion.mpr ⟨i 0, Finset.mem_univ _, (mem_slot2 _ _ i).mpr rfl⟩

/-- The gathered buffer whole is its eight slots. -/
theorem whole0 (c : Dev nD) (f : AgC F) :
    (((c : Thread nD τ).loc cc0_stg1_0) ↦{fullShare} f : sProp 𝕄)
      = iprop(pts0 c 0 f ∗ pts0 c 1 f ∗ pts0 c 2 f ∗ pts0 c 3 f ∗ pts0 c 4 f ∗ pts0 c 5 f ∗ pts0 c 6 f ∗ pts0 c 7 f) := by
  have h := pointsTo_biUnion (ℓ := (c : Thread nD τ).loc cc0_stg1_0) (q := fullShare) (f := f) (Ix := Unit) (Name := ℕ) (U := UU) (Lvl := ℕ)
    Finset.univ elts0
    (fun t _ t' _ hne => Finset.disjoint_left.mpr fun i hi hi' =>
      hne (Fin.ext (((mem_slot0 _ _ i).mp hi).symm.trans ((mem_slot0 _ _ i).mp hi'))))
  erw [cover0] at h
  rw [h, bigSep_univ_eq_bigSepL [0, 1, 2, 3, 4, 5, 6, 7] (by decide) (by decide)]
  rfl
/-- The reduction's buffer whole is its four slots. -/
theorem whole2 (c : Dev nD) (f : CmC F) :
    (((c : Thread nD τ).loc cc2_scratch0) ↦{fullShare} f : sProp 𝕄) = iprop(pts2 c 0 f ∗ pts2 c 1 f ∗ pts2 c 2 f ∗ pts2 c 3 f) := by
  have h := pointsTo_biUnion (ℓ := (c : Thread nD τ).loc cc2_scratch0) (q := fullShare) (f := f) (Ix := Unit) (Name := ℕ) (U := UU) (Lvl := ℕ)
    Finset.univ elts2
    (fun t _ t' _ hne => Finset.disjoint_left.mpr fun i hi hi' =>
      hne (Fin.ext (((mem_slot2 _ _ i).mp hi).symm.trans ((mem_slot2 _ _ i).mp hi'))))
  erw [cover2] at h
  rw [h, bigSep_univ_eq_bigSepL [0, 1, 2, 3] (by decide) (by decide)]
  rfl

/-! ## The opening stores -/

/-- An index of the gathered buffer, in its slot. -/
def unitIx (i : S8x512x4096.Idx) : S1x512x4096.Idx
  | ⟨0, _⟩ => ⟨0, Nat.one_pos⟩
  | ⟨1, _⟩ => i 1
  | ⟨2, _⟩ => i 2

theorem rect0_mem (k : ℕ) (hk : k < 8) (i : S8x512x4096.Idx) : i ∈ (rect0 k hk).set ↔ (i 0).val = k := by
  rw [← mem_slot0 k hk i, View.set_reshape, View.set_slice_whole]
/-- A store of half a device's rows into a slot, off that slot. -/
theorem store0_off (k : ℕ) (hk : k < 8) (f : AgC F) (w : S1x512x4096.Idx → Elt F .bf16) (i : S8x512x4096.Idx) (h : (i 0).val ≠ k) :
    ((Memref.whole cc0_stg1_0).access (rect0 k hk) : View sig .tc _ _ _).write (Elt F) f w Finset.univ i = f i :=
  View.write_of_not_mem _ _ _ (by
    rw [View.setOn_univ]
    intro hi
    rw [show ((Memref.whole cc0_stg1_0).access (rect0 k hk) : View sig .tc _ _ _).set = (rect0 k hk).set from View.set_slice_whole _ _] at hi
    exact h ((rect0_mem k hk i).mp hi))
/-- The same on it. -/
theorem store0_on (k : ℕ) (hk : k < 8) (f : AgC F) (w : S1x512x4096.Idx → Elt F .bf16) (i : S8x512x4096.Idx) (h : (i 0).val = k) :
    ((Memref.whole cc0_stg1_0).access (rect0 k hk) : View sig .tc _ _ _).write (Elt F) f w Finset.univ i
      = w (unitIx i) := by
  have e : i = ((Memref.whole cc0_stg1_0).access (rect0 k hk) : View sig .tc _ _ _).emb (unitIx i) := by
    refine funext fun a => Fin.ext ?_
    show _ = ((rect0 k hk).emb _ a).val
    rw [Rect.emb_apply]
    fin_cases a
    · show (i 0).val = k + 1 * 0; omega
    · show (i 1).val = 0 + 1 * (i 1).val; omega
    · show (i 2).val = 0 + 1 * (i 2).val; omega
  conv_lhs => rw [e]
  rw [View.write_emb_of_mem _ _ (Finset.mem_univ _)]
  exact eq_of_heq (cast_heq _ _)

/-- Rows `512 h` on of a device's rows, as a rectangle. -/
abbrev rectX (h : ℕ) (inb : ∀ a, (![h * 512, 0] : Fin 2 → ℕ) a + S512x4096.size a ≤ S1024x4096.size a) : Rect S1024x4096 :=
  Rect.unit (s := S1024x4096) ![h * 512, 0] S512x4096.size inb

/-- Half a device's rows, viewed as a slot. -/
theorem half_lo (x : S1024x4096.Idx → Elt F .bf16) (i : S8x512x4096.Idx) [FloatOps F] :
    k0_pay1 (F := F) ((Memref.whole cc0_stg0_0).view.readAt (Elt F) (Rect.unit (s := S1024x4096) ![0, 0] S512x4096.size inb_S1024x4096_S512x4096_0_0).toLoadRect x)
        (unitIx i) = x (rowIx 0 (by decide) (i 1) (i 2)) := by
  unfold k0_pay1
  rw [shapeCast_self]
  refine (shapeCast_addUnit_apply (![512, 4096]) _ _ _).trans ?_
  show x _ = x _
  congr 1
  refine funext fun a => Fin.ext ?_
  fin_cases a
  · show 0 + 1 * (i 1).val = 0 * 512 + (i 1).val; omega
  · show 0 + 1 * (i 2).val = (i 2).val; omega
theorem half_hi (x : S1024x4096.Idx → Elt F .bf16) (i : S8x512x4096.Idx) [FloatOps F] :
    k0_pay2 (F := F) ((Memref.whole cc0_stg0_0).view.readAt (Elt F) (Rect.unit (s := S1024x4096) ![512, 0] S512x4096.size inb_S1024x4096_S512x4096_512_0).toLoadRect x)
        (unitIx i) = x (rowIx 1 (by decide) (i 1) (i 2)) := by
  unfold k0_pay2
  rw [shapeCast_self]
  refine (shapeCast_addUnit_apply (![512, 4096]) _ _ _).trans ?_
  show x _ = x _
  congr 1
  refine funext fun a => Fin.ext ?_
  fin_cases a
  · show 512 + 1 * (i 1).val = 1 * 512 + (i 1).val; omega
  · show 0 + 1 * (i 2).val = (i 2).val; omega

end Cert.Ring

end

end
-- ==== Proof.Talk.lean ====
/-
# The protocol's steps

One lemma per kind of step of the two talking kernels — a barrier signal, a barrier wait, a transfer's start, a transfer's
wait, a dormant cell's opening and a cell's closing — each over the protocol's records, and with what is still owed kept
as a list.
-/
module

public import proofs.«01_k».proof.Proof.Slots

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop measures. -/
abbrev 𝒱₀ : Variants := Variants.none

/-! ## The cells, enumerated -/

/-- Region 0's twelve DMA semaphores. -/
def sem0 (k : Fin 12) : DmaSem sig := dq (k.val + 2) (by omega)
/-- Region 2's six. -/
def sem2 (k : Fin 6) : DmaSem sig := dq (k.val + 23) (by omega)
/-- All eighteen. -/
def scSem : Fin 12 ⊕ Fin 6 → DmaSem sig
  | .inl k => sem0 k
  | .inr k => sem2 k

theorem scSem_injective : Function.Injective scSem := by decide
/-- The barrier cells of all devices. -/
def barEmb : Dev nD × Sem sig ↪ GSem nD τ sig := ⟨fun p => bcell p.1 p.2, by
  rintro ⟨c, b⟩ ⟨c', b'⟩ h
  have h1 : c = c' := congrArg (fun g : GSem nD τ sig => g.1.1) h
  have h2 : (SemLoc.reg b : SemLoc sig) = .reg b' := congrArg Prod.snd h
  cases h1; cases h2; rfl⟩
/-- The dormant cells of all devices. -/
def scEmb : Dev nD × (Fin 12 ⊕ Fin 6) ↪ GSem nD τ sig := ⟨fun p => dcell p.1 (scSem p.2), by
  rintro ⟨c, b⟩ ⟨c', b'⟩ h
  have h1 : c = c' := congrArg (fun g : GSem nD τ sig => g.1.1) h
  have h2 : (SemLoc.dma (scSem b) : SemLoc sig) = .dma (scSem b') := congrArg Prod.snd h
  cases h1; obtain rfl := scSem_injective (SemLoc.dma.inj h2); rfl⟩
def barCells : Finset (GSem nD τ sig) := Finset.univ.map barEmb
def scCells : Finset (GSem nD τ sig) := Finset.univ.map scEmb

theorem mem_bar (c : Dev nD) (b : Sem sig) : bcell c b ∈ barCells := Finset.mem_map.mpr ⟨(c, b), Finset.mem_univ _, rfl⟩
theorem exists_sc : ∀ q : DmaSem sig, isSc q.val = true → ∃ j, scSem j = q := by decide
theorem mem_sc (c : Dev nD) (q : DmaSem sig) (h : isSc q.val = true) : dcell c q ∈ scCells := by
  obtain ⟨j, rfl⟩ := exists_sc q h
  exact Finset.mem_map.mpr ⟨(c, j), Finset.mem_univ _, rfl⟩

section Steps

variable (X : Dev nD → S1024x4096.Idx → Elt F .bf16) (A : Dev nD → Elt F .f32) (K : GSem nD τ sig → ℕ)

/-- What everyone may look at: the invariant of every cell, and that every barrier cell has reached round 0. -/
def recs : sProp 𝕄 :=
  iprop((bigSep (barCells ∪ scCells) fun g => cellInv ER (Rd X A) (K g) g) ∗ bigSep barCells fun g => reached ER g 0)
instance recs_persistent : BI.Persistent (recs X A K) := by unfold recs; infer_instance

omit [FloatOps F] in
theorem inv_bar (c : Dev nD) (b : Sem sig) : recs X A K ⊢ cellInv ER (Rd X A) (K (bcell c b)) (bcell c b) := by
  unfold recs
  exact BI.sep_and.trans (and_elimL.trans (bigSep_elim (Finset.mem_union_left _ (mem_bar c b))))
omit [FloatOps F] in
theorem inv_dma (c : Dev nD) (q : DmaSem sig) (h : isSc q.val = true) : recs X A K ⊢ cellInv ER (Rd X A) (K (dcell c q)) (dcell c q) := by
  unfold recs
  exact BI.sep_and.trans (and_elimL.trans (bigSep_elim (Finset.mem_union_right _ (mem_sc c q h))))
omit [FloatOps F] in
theorem reached_bar (c : Dev nD) (b : Sem sig) : recs X A K ⊢ reached ER (bcell c b) 0 := by
  unfold recs
  exact BI.sep_and.trans (and_elimR.trans (bigSep_elim (mem_bar c b)))

omit [FloatOps F] in
theorem payload_bar (c : Dev nD) (b : Sem sig) (d : Bool) : (Rd X A).payload (bcell c b) 0 d = barPay c b d := rfl
omit [FloatOps F] in
theorem payload_dma (c : Dev nD) (q : DmaSem sig) (d : Bool) : (Rd X A).payload (dcell c q) 0 d = dmaPay X A c q.val := rfl
omit [FloatOps F] in
theorem amount_dma (c : Dev nD) (q : DmaSem sig) (d : Bool) : (Rd X A).amount (dcell c q) 0 d = amt q.val := rfl
omit [FloatOps F] in
theorem credit0 (k : ℕ) (hk : k < 8) (q : DmaSem sig) : (slot0 k hk).view.amount (.dma q) = N0 := rfl
omit [FloatOps F] in
theorem credit2 (k : ℕ) (hk : k < 4) (q : DmaSem sig) : (slot2 k hk).view.amount (.dma q) = N2 := rfl

/-- What device `c` owes: the list `l`. -/
def owed (c : Dev nD) (l : List (GSem nD τ sig × ℕ)) : sProp 𝕄 := iprop(∃ W, owes (c : Thread nD τ) (tal l) W)

/-- The side condition of a wait: all owed cells lie above level `n`. -/
def above (n : ℕ) (l : List (GSem nD τ sig × ℕ)) : Prop := ∀ x ∈ l, x.1.1.2 = .tc ∧ n < lvl x.1.2
theorem above_nil (n : ℕ) : above n [] := fun _ h => absurd h List.not_mem_nil
theorem above_cons {n : ℕ} {x : GSem nD τ sig × ℕ} {l : List (GSem nD τ sig × ℕ)} (h : x.1.1.2 = .tc) (h' : n < lvl x.1.2) (hl : above n l) : above n (x :: l) :=
  List.forall_mem_cons.mpr ⟨⟨h, h'⟩, hl⟩

/-- A device's position on a DMA cell at the start of its one round. -/
def at0 (c : Dev nD) (q : DmaSem sig) : sProp 𝕄 := iprop(atPos ER (dcell c q) 0 ∅ 0 ∗ reached ER (dcell c q) 0)
/-- And at its end. -/
def at1 (c : Dev nD) (q : DmaSem sig) : sProp 𝕄 := atPos ER (dcell c q) 1 ∅ 0

omit [FloatOps F] in
/-- A dormant cell, its counter at zero in hand, is opened. -/
theorem open1 (c : Dev nD) (q : DmaSem sig) (h : isSc q.val = true) :
    iprop(recs X A K ∗ openTok ER (dcell c q) ∗ semVal (dcell c q) 0) ⊢ (|={Set.univ}=> at0 c q : sProp 𝕄) := by
  unfold at0
  iintro ⟨#HR, Ho, Hs⟩
  imod (Rounds.cell_open ER (Rd X A) (g := dcell c q) (Set.mem_univ (K (dcell c q)))) $$ [Ho Hs] with ⟨Hat, #Hr⟩
  · isplitr; · iapply (inv_dma X A K c q h); iexact HR
    isplitl [Ho] <;> iassumption
  imodintro
  isplitl [Hat]; · iexact Hat
  iexact Hr
omit [FloatOps F] in
/-- A cell whose round is over is closed: its counter is back in hand at zero. -/
theorem close1 (c : Dev nD) (q : DmaSem sig) (h : isSc q.val = true) :
    iprop(recs X A K ∗ at1 c q) ⊢ (|={Set.univ}=> semVal (dcell c q) 0 : sProp 𝕄) := by
  unfold at1
  iintro ⟨#HR, Hat⟩
  imod (Rounds.cell_close ER (Rd X A) (g := dcell c q) (Set.mem_univ (K (dcell c q))) id (R := 1) (duties_later X A (dcell c q))) $$ [Hat] with Hz
  · isplitr; · iapply (inv_dma X A K c q h); iexact HR
    iexact Hat
  imodintro; iexact Hz
omit [FloatOps F] in
/-- The same for a barrier cell. -/
theorem closeBar (c : Dev nD) (b : Sem sig) :
    iprop(recs X A K ∗ atPos ER (bcell c b) 1 ∅ 0) ⊢ (|={Set.univ}=> semVal (bcell c b) 0 : sProp 𝕄) := by
  iintro ⟨#HR, Hat⟩
  imod (Rounds.cell_close ER (Rd X A) (g := bcell c b) (Set.mem_univ (K (bcell c b))) id (R := 1) (duties_later X A (bcell c b))) $$ [Hat] with Hz
  · isplitr; · iapply (inv_bar X A K c b); iexact HR
    iexact Hat
  imodintro; iexact Hz

variable {α : Type} {Q : α → sProp (MT nD τ sig Unit (Elt F) ℕ UU ℕ)} {k : PUnit → Prog (TpuEff nD τ sig (Elt F) Λ₀ .tc) α}

/-- A barrier SIGNAL to device `n`: pays the duty `d` with what it hands over. -/
theorem wp_sig (c n n' : Dev nD) (hn : n' = n) (b : Sem sig) (d : Bool) (l : List (GSem nD τ sig × ℕ)) {a : ℕ} (ha : a = 1) :
    iprop(recs X A K ∗ owed c ((bcell n b, 1) :: l) ∗ dutyTok ER (bcell n b) 0 d ∗ barPay n b d)
      ⊢ iprop((owed c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n' : Thread nD τ) b a) k) Q) := by
  subst hn ha
  unfold owed
  iintro ⟨#HR, ⟨%W, HO⟩, Ht, Hp⟩ Hk
  iapply (Rounds.wp_signal 𝒱₀ ER (Rd X A) (c : Thread nD τ) none (dst := (n' : Thread nD τ)) (κ := K (bcell n' b))
      (d := d) (by rw [duties_bar]; exact Finset.mem_univ _) rfl () (tal l) rfl) $$ [HO Ht Hp]
  · isplitr; · iapply (inv_bar X A K n' b); iexact HR
    isplitl [HO]; · iexact HO
    isplitl [Ht]; · iexact Ht
    isplitl [Hp]; · rw [payload_bar]; iexact Hp
    iapply (reached_bar X A K n' b); iexact HR
  iintro HO
  iapply Hk
  iexists W; iexact HO

/-- The barrier WAIT: both neighbours' payloads. -/
theorem wp_bar (c : Dev nD) (b : Sem sig) (l : List (GSem nD τ sig × ℕ)) (hl : above (lvl (.reg b)) l) {a : ℕ} (ha : a = 2) :
    iprop(recs X A K ∗ levAts L lv ∗ cred (tallyAt (bcell c b) () 2) ∗ owed c l ∗ atPos ER (bcell c b) 0 ∅ 0)
      ⊢ iprop(((owed c l ∗ atPos ER (bcell c b) 1 ∅ 0 ∗ barPay c b false ∗ barPay c b true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait b a) k) Q) := by
  subst ha
  unfold owed
  iintro ⟨#HR, #Hlev, Hc, ⟨%W, HO⟩, Hat⟩ Hk
  iapply (Rounds.wp_wait_rest_token 𝒱₀ ER (Rd X A) (c : Thread nD τ) none (κ := K (bcell c b))
      (wpE_semWait_eq 𝒱₀ (c : Thread nD τ) none Set.univ) (Set.mem_univ _) () (O := tal l) (W := W) (R := 0) (m := 0) (T := ∅)
      (by rw [expect_bar X A])) $$ [Hc HO Hat]
  · isplitr; · iapply (inv_bar X A K c b); iexact HR
    isplitl [Hc]; · iexact Hc
    isplitl [HO]; · iexact HO
    isplitr; · iapply (mayWait c (.reg b) l hl); iexact Hlev
    iexact Hat
  iintro ⟨HO, Hat, -, Hpay⟩
  iapply Hk
  isplitl [HO]; · iexists _; iexact HO
  isplitl [Hat]; · iexact Hat
  iapply (Entails.of_eq (rest_bar X A c b)); iexact Hpay

/-- A DMA WAIT of the whole round: the cell's payload. -/
theorem wp_rcv (c : Dev nD) (q : DmaSem sig) (hq : isSc q.val = true) (l : List (GSem nD τ sig × ℕ)) (hl : above (lvl (.dma q)) l)
    {sp sp' : Space} {s s' : Shape} {e e' : EltTy} {src : Memref sig .tc sp s e} {dst : Memref sig .tc sp' s' e'} {hsrc : src.view.WordExact} {hdst : dst.view.WordExact}
    (hN : dst.view.dmaCredit = amt q.val) :
    iprop(recs X A K ∗ levAts L lv ∗ cred (tallyAt (dcell c q) () (amt q.val)) ∗ owed c l ∗ at0 c q)
      ⊢ iprop(((owed c l ∗ at1 c q ∗ dmaPay X A c q.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold owed at0 at1
  iintro ⟨#HR, #Hlev, Hc, ⟨%W, HO⟩, Hat, -⟩ Hk
  iapply (Rounds.wp_wait_rest_token 𝒱₀ ER (Rd X A) (c : Thread nD τ) none (κ := K (dcell c q))
      (wpE_waitDma2_eq 𝒱₀ (c : Thread nD τ) none Set.univ) (Set.mem_univ _) () (O := tal l) (W := W) (R := 0) (m := 0) (T := ∅)
      (by rw [Nat.zero_add, hN, expect_dma X A c q hq])) $$ [Hc HO Hat]
  · isplitr; · iapply (inv_dma X A K c q hq); iexact HR
    isplitl [Hc]; · rw [hN]; iexact Hc
    isplitl [HO]; · iexact HO
    isplitr; · iapply (mayWait c (.dma q) l hl); iexact Hlev
    iexact Hat
  iintro ⟨HO, Hat, -, Hpay⟩
  iapply Hk
  isplitl [HO]; · iexists _; iexact HO
  isplitl [Hat]; · iexact Hat
  iapply (Entails.of_eq (rest_dma X A c q hq)); iexact Hpay

/-- A TRANSFER of slot `k₁` of the gathered buffer to device `n`'s slot `k₂`. -/
theorem wp_hop0 (c n n' : Dev nD) (hn : n' = n) (k₁ k₂ : ℕ) (hk₁ : k₁ < 8) (hk₂ : k₂ < 8) (qs qv : DmaSem sig)
    (hqs : isSc qs.val = true) (hqv : isSc qv.val = true) (has : amt qs.val = N0) (hav : amt qv.val = N0)
    (hps : dmaPay X A c qs.val = pts0 c k₁ (ag X c) hk₁) (hpv : dmaPay X A n qv.val = pts0 n k₂ (ag X n) hk₂)
    (hd : srcDev n k₂ = srcDev c k₁) (hh : srcHalf k₂ = srcHalf k₁) (l : List (GSem nD τ sig × ℕ))
    {hsc : (slot0 k₂ hk₂ : Memref sig (Dev.tc n' : Thread nD τ).2.kind .vmem S512x4096 .bf16).view.ref.isScScratch = false}
    {hsrc : (slot0 k₁ hk₁).view.WordExact} {hdst : (slot0 k₂ hk₂).view.WordExact}
    {hsem : DmaTarget.Typed .vmem (.dma qv) (.remote (Dev.tc n' : Thread nD τ) (slot0 k₂ hk₂ : Memref sig .tc .vmem S512x4096 .bf16) (.dma qs) hsc)}
    (fd : AgC F) :
    iprop(recs X A K ∗ pts0 c k₁ (ag X c) hk₁ ∗ pts0 n k₂ fd hk₂ ∗ owed c ((dcell n qv, N0) :: l)
        ∗ dutyTok ER (dcell c qs) 0 false ∗ reached ER (dcell c qs) 0 ∗ dutyTok ER (dcell n qv) 0 false ∗ reached ER (dcell n qv) 0)
      ⊢ iprop(((cred (tallyAt (dcell c qs) () N0) ∗ owed c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot0 k₁ hk₁) (.remote (Dev.tc n' : Thread nD τ) (slot0 k₂ hk₂) (.dma qs) hsc) (.dma qv) hsrc hdst hsem) k) Q) := by
  subst hn
  unfold owed
  iintro ⟨#HR, Hs, Hd, ⟨%W, HO⟩, Hts, #Hrs, Htv, #Hrv⟩ Hk
  iapply (Rounds.wp_send_pointsTo 𝒱₀ ER (Rd X A) (c : Thread nD τ) none (κ₁ := K (dcell c qs)) (κ₂ := K (dcell n' qv))
      (src := slot0 k₁ hk₁) (dst := slot0 k₂ hk₂) (c' := (n' : Thread nD τ)) (sS := .dma qs) (sem := .dma qv)
      (r₁ := 0) (r₂ := 0) (d₁ := false) (d₂ := false) (fd := fd) (fs := ag X c) (q := fullShare)
      (by rw [duties_dma X A c qs hqs]; exact Finset.mem_singleton_self _) (by rw [duties_dma X A n' qv hqv]; exact Finset.mem_singleton_self _)
      () () N0 (credit0 k₂ hk₂ qv) ((amount_dma X A c qs false).trans has) ((amount_dma X A n' qv false).trans hav) (tal l) rfl (W := W)
      (Entails.of_eq ((payload_dma X A c qs false).trans hps).symm) (Entails.of_eq ((landed0 X c n' k₁ k₂ hk₁ hk₂ hd hh fd).trans ((payload_dma X A n' qv false).trans hpv).symm))) $$ [Hs Hd HO Hts Htv]
  · isplitr; · iapply (inv_dma X A K c qs hqs); iexact HR
    isplitr; · iapply (inv_dma X A K n' qv hqv); iexact HR
    isplitl [Hs]; · unfold pts0; iexact Hs
    isplitl [Hd]; · unfold pts0; iexact Hd
    isplitl [HO]; · iexact HO
    isplitl [Hts]; · iexact Hts
    isplitr; · iexact Hrs
    isplitl [Htv]; · iexact Htv
    iexact Hrv
  iintro ⟨Hc, HO⟩
  iapply Hk
  isplitl [Hc]; · iexact Hc
  iexists W; iexact HO

/-- A TRANSFER of slot `k₁` of the reduction's buffer to device `n`'s slot `k₂`. -/
theorem wp_hop2 (c n n' : Dev nD) (hn : n' = n) (k₁ k₂ : ℕ) (hk₁ : k₁ < 4) (hk₂ : k₂ < 4) (qs qv : DmaSem sig)
    (hqs : isSc qs.val = true) (hqv : isSc qv.val = true) (has : amt qs.val = N2) (hav : amt qv.val = N2)
    (hps : dmaPay X A c qs.val = pts2 c k₁ (cm A c) hk₁) (hpv : dmaPay X A n qv.val = pts2 n k₂ (cm A n) hk₂)
    (hd : srcDev2 n k₂ = srcDev2 c k₁) (l : List (GSem nD τ sig × ℕ))
    {hsc : (slot2 k₂ hk₂ : Memref sig (Dev.tc n' : Thread nD τ).2.kind .vmem S8x128 .f32).view.ref.isScScratch = false}
    {hsrc : (slot2 k₁ hk₁).view.WordExact} {hdst : (slot2 k₂ hk₂).view.WordExact}
    {hsem : DmaTarget.Typed .vmem (.dma qv) (.remote (Dev.tc n' : Thread nD τ) (slot2 k₂ hk₂ : Memref sig .tc .vmem S8x128 .f32) (.dma qs) hsc)}
    (fd : CmC F) :
    iprop(recs X A K ∗ pts2 c k₁ (cm A c) hk₁ ∗ pts2 n k₂ fd hk₂ ∗ owed c ((dcell n qv, N2) :: l)
        ∗ dutyTok ER (dcell c qs) 0 false ∗ reached ER (dcell c qs) 0 ∗ dutyTok ER (dcell n qv) 0 false ∗ reached ER (dcell n qv) 0)
      ⊢ iprop(((cred (tallyAt (dcell c qs) () N2) ∗ owed c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot2 k₁ hk₁) (.remote (Dev.tc n' : Thread nD τ) (slot2 k₂ hk₂) (.dma qs) hsc) (.dma qv) hsrc hdst hsem) k) Q) := by
  subst hn
  unfold owed
  iintro ⟨#HR, Hs, Hd, ⟨%W, HO⟩, Hts, #Hrs, Htv, #Hrv⟩ Hk
  iapply (Rounds.wp_send_pointsTo 𝒱₀ ER (Rd X A) (c : Thread nD τ) none (κ₁ := K (dcell c qs)) (κ₂ := K (dcell n' qv))
      (src := slot2 k₁ hk₁) (dst := slot2 k₂ hk₂) (c' := (n' : Thread nD τ)) (sS := .dma qs) (sem := .dma qv)
      (r₁ := 0) (r₂ := 0) (d₁ := false) (d₂ := false) (fd := fd) (fs := cm A c) (q := fullShare)
      (by rw [duties_dma X A c qs hqs]; exact Finset.mem_singleton_self _) (by rw [duties_dma X A n' qv hqv]; exact Finset.mem_singleton_self _)
      () () N2 (credit2 k₂ hk₂ qv) ((amount_dma X A c qs false).trans has) ((amount_dma X A n' qv false).trans hav) (tal l) rfl (W := W)
      (Entails.of_eq ((payload_dma X A c qs false).trans hps).symm) (Entails.of_eq ((landed2 A c n' k₁ k₂ hk₁ hk₂ hd fd).trans ((payload_dma X A n' qv false).trans hpv).symm))) $$ [Hs Hd HO Hts Htv]
  · isplitr; · iapply (inv_dma X A K c qs hqs); iexact HR
    isplitr; · iapply (inv_dma X A K n' qv hqv); iexact HR
    isplitl [Hs]; · unfold pts2; iexact Hs
    isplitl [Hd]; · unfold pts2; iexact Hd
    isplitl [HO]; · iexact HO
    isplitl [Hts]; · iexact Hts
    isplitr; · iexact Hrs
    isplitl [Htv]; · iexact Htv
    iexact Hrv
  iintro ⟨Hc, HO⟩
  iapply Hk
  isplitl [Hc]; · iexact Hc
  iexists W; iexact HO

end Steps

end Cert.Ring

end

end
-- ==== Proof.Blocks.lean ====
/-
  The two calls that talk to nobody: the blocked product with its running largest absolute value, and the quantising
  epilogue. One grid point of each, on whatever staging buffers the pipeline hands it.
-/
module

public import proofs.«01_k».proof.Proof.Talk

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Access

variable (c : Dev nD) {cs : CoreSpace} {s : Shape} {e : EltTy}
variable {α : Type} {Q : α → sProp (MT nD τ sig Unit (Elt F) ℕ UU ℕ)}

/-- Holding a whole buffer, at contents `X`. -/
theorem owns_whole (b : Ref sig .tc) (q : PosShare TreeShare) (X : b.ty.shape.Idx → Elt F b.ty.elt) :
    (owns (c : Thread nD τ) (Memref.whole b) q X : sProp 𝕄) = iprop(∃ f : b.ty.shape.Idx → Elt F b.ty.elt, ⌜f = X⌝ ∗ ((c : Thread nD τ).loc b ↦{q} f)) := by
  unfold owns
  simp only [Memref.view_whole, View.read_whole, View.set_whole]

theorem owns_whole_intro (b : Ref sig .tc) (q : PosShare TreeShare) (X : b.ty.shape.Idx → Elt F b.ty.elt) :
    ((c : Thread nD τ).loc b ↦{q} X : sProp 𝕄) ⊢ owns (c : Thread nD τ) (Memref.whole b) q X := by
  rw [owns_whole]
  iintro H
  iexists X
  isplitr
  · ipureintro; rfl
  · iexact H

theorem owns_whole_elim (b : Ref sig .tc) (q : PosShare TreeShare) (X : b.ty.shape.Idx → Elt F b.ty.elt) :
    (owns (c : Thread nD τ) (Memref.whole b) q X : sProp 𝕄) ⊢ ((c : Thread nD τ).loc b ↦{q} X) := by
  rw [owns_whole]
  iintro ⟨%f, %h, H⟩
  subst h
  iexact H

/-- Loading all of a whole buffer gives what it holds. -/
theorem load_all (m : Memref sig .tc cs s e) (hm : m.IsWhole) {off : Fin s.rank → ℕ} (h0 : off = fun _ => 0)
    {inb : ∀ a, off a + s.size a ≤ s.size a} {hl : m.view.LoadsAt (Rect.unit (s := s) off s.size inb).toLoadRect}
    {k : (s.Idx → Elt F e) → Prog (TpuEff nD τ sig (Elt F) Λ₀ .tc) α} (q : PosShare TreeShare) (X : s.Idx → Elt F e) :
    (owns (c : Thread nD τ) m q X : sProp 𝕄) ⊢ iprop((owns (c : Thread nD τ) m q X -∗ wp frame (wpE (defs₀ (F := F)) 𝒱₀ (c : Thread nD τ) none) Set.univ (k X) Q)
      -∗ wp frame (wpE (defs₀ (F := F)) 𝒱₀ (c : Thread nD τ) none) Set.univ (.op (.load m (Rect.unit (s := s) off s.size inb).toLoadRect hl) k) Q) := by
  obtain ⟨⟨sp, ix, nm⟩, h1, rfl, rfl, h⟩ := hm
  subst h1
  cases h
  have h := wp_load (defs := defs₀ (F := F)) 𝒱₀ (c : Thread nD τ) none (Γ := .empty) Set.univ (Q := Q) (m := Memref.whole ⟨_, ix, nm⟩) (hl := hl)
    (k := k) (q := q) (f := X) (S := Finset.univ) (Finset.subset_univ _)
  rw [Memref.readAt_unit_zero (Elt F) _ h0 inb X] at h
  iintro H Hk
  iapply h $$ [H]
  · iapply (owns_whole_elim c ⟨_, ix, nm⟩ q X) $$ H
  iintro H
  iapply Hk
  iapply (owns_whole_intro c ⟨_, ix, nm⟩ q X) $$ H

/-- Storing over all of a whole buffer leaves what was stored. -/
theorem store_all (m : Memref sig .tc cs s e) (hm : m.IsWhole) {off : Fin s.rank → ℕ} (h0 : off = fun _ => 0)
    {inb : ∀ a, off a + s.size a ≤ s.size a} {w : s.Idx → Elt F e}
    {hx : (m.access (Rect.unit (s := s) off s.size inb) : View sig .tc _ _ _).Stores Finset.univ}
    {ha : Finset.univ = Finset.univ ∨ ∀ a, (Rect.unit (s := s) off s.size inb).stride a = 1}
    {k : PUnit → Prog (TpuEff nD τ sig (Elt F) Λ₀ .tc) α} (X : s.Idx → Elt F e) :
    (owns (c : Thread nD τ) m fullShare X : sProp 𝕄) ⊢ iprop((owns (c : Thread nD τ) m fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store m (Rect.unit (s := s) off s.size inb) w Finset.univ hx ha) k) Q) := by
  obtain ⟨⟨sp, ix, nm⟩, h1, rfl, rfl, h⟩ := hm
  subst h1
  cases h
  have h := wp_store (defs := defs₀ (F := F)) 𝒱₀ (c : Thread nD τ) none (Γ := .empty) Set.univ (Q := Q) (m := Memref.whole (⟨.core cs, ix, nm⟩ : Ref sig .tc))
    (r := Rect.unit (s := (⟨.core cs, ix, nm⟩ : Ref sig .tc).ty.shape) off (⟨.core cs, ix, nm⟩ : Ref sig .tc).ty.shape.size inb) (w := w) (Mk := Finset.univ)
    (hx := hx) (hm := ha) (k := k) (f := X) (S := Finset.univ) (Finset.subset_univ _)
  rw [Memref.write_access_unit_zero_univ (Elt F) _ h0 inb X w] at h
  iintro H Hk
  iapply h $$ [H]
  · iapply (owns_whole_elim c ⟨_, ix, nm⟩ fullShare X) $$ H
  iintro H
  iapply Hk
  iapply (owns_whole_intro c ⟨_, ix, nm⟩ fullShare w) $$ H

end Access

/-- The one element of the running largest value. -/
abbrev one11 : S1x1.Idx := fun a => ⟨0, by revert a; decide⟩

theorem zero2 : (![0, 0] : Fin 2 → ℕ) = fun _ => 0 := by decide
theorem zero3 : (![0, 0, 0] : Fin 3 → ℕ) = fun _ => 0 := by decide

/-- The number the running largest value goes on from: 0 at the first grid point. -/
def base1 (i : grid1.Coords) (a : Elt F .f32) : Elt F .f32 := if (i 0).val = 0 then Scalar.ofBits .f32 0x00000000#32 else a

/-- The product's body at one grid point. -/
theorem run1 (c : Dev nD) (i : grid1.Coords) (m1 : Memref sig .tc .smem S8 .i32) (h1 : m1.IsWhole)
    (m2 : Memref sig .tc .vmem S1x512x4096 .bf16) (h2 : m2.IsWhole) (m3 : Memref sig .tc .vmem S4096x2048 .bf16) (h3 : m3.IsWhole)
    (m4 : Memref sig .tc .vmem S512x2048 .f32) (h4 : m4.IsWhole) (m5 : Memref sig .tc .smem S1x1 .f32) (h5 : m5.IsWhole)
    (x : S1x512x4096.Idx → Elt F .bf16) (w : S4096x2048.Idx → Elt F .bf16) (y : S512x2048.Idx → Elt F .f32) (a : S1x1.Idx → Elt F .f32)
    (Kt : PUnit → sProp 𝕄) :
    iprop(owns (c : Thread nD τ) m2 fullShare x ∗ owns (c : Thread nD τ) m3 fullShare w ∗ owns (c : Thread nD τ) m4 fullShare y ∗ owns (c : Thread nD τ) m5 fullShare a)
      ⊢ iprop((iprop(owns (c : Thread nD τ) m2 fullShare x ∗ owns (c : Thread nD τ) m3 fullShare w ∗ owns (c : Thread nD τ) m4 fullShare (k1_pay1 x w)
            ∗ owns (c : Thread nD τ) m5 fullShare (fun _ => k1_pay2 (base1 i (a one11)) (k1_pay1 x w))) -∗ Kt ⟨⟩)
        -∗ wp frame (wpE (defs₀ (F := F)) 𝒱₀ (c : Thread nD τ) none) Set.univ (cc1__gemm_body (F := F) i m1 h1 m2 h2 m3 h3 m4 h4 m5 h5) Kt) := by
  have hv : ∀ n : Fin 8, (Scalar.cmpi .ne (Scalar.extui (Scalar.cmpi .eq (BitVec.ofNat 32 n.val) 0#32) : BitVec 32) 0#32 = 1#1) ↔ n.val = 0 := by decide
  simp only [cc1__gemm_body_eq_skeleton]
  unfold cc1__gemm_body_skel
  simp only [smemLoad, smemLoadElt, Prog.lift, Prog.bind_op, Prog.bind_ret, Prog.pure_eq_ret, Prog.bind_assoc]
  iintro ⟨H2, H3, H4, H5⟩ Hk
  iapply (load_all c m2 h2 zero3 fullShare x) $$ H2
  iintro H2
  iapply (load_all c m3 h3 zero2 fullShare w) $$ H3
  iintro H3
  iapply (load_all c m4 h4 zero2 fullShare y) $$ H4
  iintro H4
  iapply (store_all c m4 h4 zero2 y) $$ H4
  iintro H4
  by_cases h0 : (i 0).val = 0
  · rw [dif_pos ((hv (i 0)).mpr h0)]
    simp only [Prog.bind_op, Prog.bind_ret]
    iapply (load_all c m5 h5 zero2 fullShare a) $$ H5
    iintro H5
    iapply (store_all c m5 h5 zero2 a) $$ H5
    iintro H5
    simp only [Prog.bind_op, Prog.bind_ret]
    iapply (load_all c m5 h5 zero2 fullShare _) $$ H5
    iintro H5
    iapply (load_all c m4 h4 zero2 fullShare _) $$ H4
    iintro H4
    iapply (load_all c m5 h5 zero2 fullShare _) $$ H5
    iintro H5
    iapply (store_all c m5 h5 zero2 _) $$ H5
    iintro H5
    rw [wp_ret]
    imodintro
    iapply Hk
    unfold base1
    rw [if_pos h0]
    isplitl [H2]; · iexact H2
    isplitl [H3]; · iexact H3
    isplitl [H4]; · iexact H4
    iexact H5
  · rw [dif_neg (fun h => h0 ((hv (i 0)).mp h))]
    simp only [Prog.bind_op, Prog.bind_ret]
    iapply (load_all c m5 h5 zero2 fullShare a) $$ H5
    iintro H5
    iapply (load_all c m4 h4 zero2 fullShare _) $$ H4
    iintro H4
    iapply (load_all c m5 h5 zero2 fullShare _) $$ H5
    iintro H5
    iapply (store_all c m5 h5 zero2 _) $$ H5
    iintro H5
    rw [wp_ret]
    imodintro
    iapply Hk
    unfold base1
    rw [if_neg h0]
    isplitl [H2]; · iexact H2
    isplitl [H3]; · iexact H3
    isplitl [H4]; · iexact H4
    iexact H5

/-- The epilogue's body at one grid point. -/
theorem run3 (c : Dev nD) (i : grid3.Coords)
    (m1 : Memref sig .tc .vmem S512x2048 .f32) (h1 : m1.IsWhole) (m2 : Memref sig .tc .smem S1x1 .f32) (h2 : m2.IsWhole)
    (m3 : Memref sig .tc .vmem S512x2048 .f32) (h3 : m3.IsWhole)
    (y : S512x2048.Idx → Elt F .f32) (a : S1x1.Idx → Elt F .f32) (o : S512x2048.Idx → Elt F .f32)
    (Kt : PUnit → sProp 𝕄) :
    iprop(owns (c : Thread nD τ) m1 fullShare y ∗ owns (c : Thread nD τ) m2 fullShare a ∗ owns (c : Thread nD τ) m3 fullShare o)
      ⊢ iprop((iprop(owns (c : Thread nD τ) m1 fullShare y ∗ owns (c : Thread nD τ) m2 fullShare a ∗ owns (c : Thread nD τ) m3 fullShare (k3_pay1 (a one11) y)) -∗ Kt ⟨⟩)
        -∗ wp frame (wpE (defs₀ (F := F)) 𝒱₀ (c : Thread nD τ) none) Set.univ (cc3__epilogue_body (F := F) i m1 h1 m2 h2 m3 h3) Kt) := by
  simp only [cc3__epilogue_body_eq_skeleton]
  unfold cc3__epilogue_body_skel
  simp only [smemLoad, smemLoadElt, Prog.lift, Prog.bind_op, Prog.bind_ret, Prog.pure_eq_ret, Prog.bind_assoc]
  iintro ⟨H1, H2, H3⟩ Hk
  iapply (load_all c m2 h2 zero2 fullShare a) $$ H2
  iintro H2
  iapply (load_all c m1 h1 zero2 fullShare y) $$ H1
  iintro H1
  iapply (load_all c m3 h3 zero2 fullShare o) $$ H3
  iintro H3
  iapply (store_all c m3 h3 zero2 o) $$ H3
  iintro H3
  rw [wp_ret]
  imodintro
  iapply Hk
  isplitl [H1]; · iexact H1
  isplitl [H2]; · iexact H2
  iexact H3

end Cert.Ring

end

end
-- ==== Proof.Body0.lean ====
/-
# Region 0: the ring all-gather's body

Both halves of every device's rows travel the ring, the upper half to the right and the lower half to the left, three hops
each. From the rows `X c` in the input's buffer the body makes the gathered buffer `ag X c`, on every device.
-/
module

public import proofs.«01_k».proof.Proof.Talk

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Names the program spells out -/

/-- The twelve semaphores, as the program picks them. -/
theorem sems0 :
    ((cc0_scratch0.slice (Rect.unit (s := S3) ![0] ![1] inb_S3_S1_0)).squeeze S_ squeezes_S1_S_).sem = dq 2
    ∧ ((cc0_scratch0.slice (Rect.unit (s := S3) ![1] ![1] inb_S3_S1_1)).squeeze S_ squeezes_S1_S_).sem = dq 3
    ∧ ((cc0_scratch0.slice (Rect.unit (s := S3) ![2] ![1] inb_S3_S1_2)).squeeze S_ squeezes_S1_S_).sem = dq 4
    ∧ ((cc0_scratch1.slice (Rect.unit (s := S3) ![0] ![1] inb_S3_S1_0)).squeeze S_ squeezes_S1_S_).sem = dq 5
    ∧ ((cc0_scratch1.slice (Rect.unit (s := S3) ![1] ![1] inb_S3_S1_1)).squeeze S_ squeezes_S1_S_).sem = dq 6
    ∧ ((cc0_scratch1.slice (Rect.unit (s := S3) ![2] ![1] inb_S3_S1_2)).squeeze S_ squeezes_S1_S_).sem = dq 7
    ∧ ((cc0_scratch2.slice (Rect.unit (s := S3) ![0] ![1] inb_S3_S1_0)).squeeze S_ squeezes_S1_S_).sem = dq 8
    ∧ ((cc0_scratch2.slice (Rect.unit (s := S3) ![1] ![1] inb_S3_S1_1)).squeeze S_ squeezes_S1_S_).sem = dq 9
    ∧ ((cc0_scratch2.slice (Rect.unit (s := S3) ![2] ![1] inb_S3_S1_2)).squeeze S_ squeezes_S1_S_).sem = dq 10
    ∧ ((cc0_scratch3.slice (Rect.unit (s := S3) ![0] ![1] inb_S3_S1_0)).squeeze S_ squeezes_S1_S_).sem = dq 11
    ∧ ((cc0_scratch3.slice (Rect.unit (s := S3) ![1] ![1] inb_S3_S1_1)).squeeze S_ squeezes_S1_S_).sem = dq 12
    ∧ ((cc0_scratch3.slice (Rect.unit (s := S3) ![2] ![1] inb_S3_S1_2)).squeeze S_ squeezes_S1_S_).sem = dq 13 := ⟨rfl, rfl, rfl, rfl, rfl, rfl, rfl, rfl, rfl, rfl, rfl, rfl⟩

/-- The same, named. -/
abbrev q2 : DmaSem sig := dq 2
abbrev q3 : DmaSem sig := dq 3
abbrev q4 : DmaSem sig := dq 4
abbrev q5 : DmaSem sig := dq 5
abbrev q6 : DmaSem sig := dq 6
abbrev q7 : DmaSem sig := dq 7
abbrev q8 : DmaSem sig := dq 8
abbrev q9 : DmaSem sig := dq 9
abbrev q10 : DmaSem sig := dq 10
abbrev q11 : DmaSem sig := dq 11
abbrev q12 : DmaSem sig := dq 12
abbrev q13 : DmaSem sig := dq 13

theorem to_left {c : Dev nD} {k : ℕ} (h : k < nD) (e : k = (c.val + 3) % 4) : (⟨k, h⟩ : Dev nD) = prv c := Fin.ext e
theorem to_right {c : Dev nD} {k : ℕ} (h : k < nD) (e : k = (c.val + 1) % 4) : (⟨k, h⟩ : Dev nD) = nxt c := Fin.ext e

theorem above_mono {n m : ℕ} {l : List (GSem nD τ sig × ℕ)} (h : n ≤ m) (hl : above m l) : above n l := fun x hx => ⟨(hl x hx).1, h.trans_lt (hl x hx).2⟩

/-- What is owed, and at which levels, as region 0 goes on. -/
theorem above_d2 (c : Dev nD) : above 4 (dues2 c) := by
  unfold dues2
  repeat (first | exact above_nil _ | refine above_cons rfl (of_decide_eq_true rfl) ?_)
theorem above_h2 (c : Dev nD) : above 3 ((dcell (nxt c) (dq 7), N0) :: (dcell (prv c) (dq 13), N0) :: dues2 c) :=
  above_cons rfl (of_decide_eq_true rfl) (above_cons rfl (of_decide_eq_true rfl) (above_mono (by decide) (above_d2 c)))
theorem above_h1 (c : Dev nD) : above 2 ((dcell (nxt c) (dq 6), N0) :: (dcell (prv c) (dq 12), N0) :: (dcell (nxt c) (dq 7), N0) :: (dcell (prv c) (dq 13), N0) :: dues2 c) :=
  above_cons rfl (of_decide_eq_true rfl) (above_cons rfl (of_decide_eq_true rfl) (above_mono (by decide) (above_h2 c)))
theorem above_h0 (c : Dev nD) : above 1 ((dcell (nxt c) (dq 5), N0) :: (dcell (prv c) (dq 11), N0) :: (dcell (nxt c) (dq 6), N0) :: (dcell (prv c) (dq 12), N0) :: (dcell (nxt c) (dq 7), N0) :: (dcell (prv c) (dq 13), N0) :: dues2 c) :=
  above_cons rfl (of_decide_eq_true rfl) (above_cons rfl (of_decide_eq_true rfl) (above_mono (by decide) (above_h1 c)))
/-- Everything owed at the start lies above level 0. -/
theorem above_d0 (c : Dev nD) : above 0 (dues0 c) :=
  above_cons rfl (of_decide_eq_true rfl) (above_cons rfl (of_decide_eq_true rfl) (above_mono (by decide) (above_h0 c)))

variable (X : Dev nD → S1024x4096.Idx → Elt F .bf16) (A : Dev nD → Elt F .f32) (K : GSem nD τ sig → ℕ)

/-- The rights to pay that region 0 uses up: both neighbours' barriers, the sends, and the receives at both neighbours. -/
def toks0 (c : Dev nD) : sProp 𝕄 :=
  iprop(dutyTok ER (bcell (prv c) bar0) 0 true ∗ dutyTok ER (bcell (nxt c) bar0) 0 false
    ∗ dutyTok ER (dcell c (dq 2)) 0 false ∗ dutyTok ER (dcell c (dq 3)) 0 false ∗ dutyTok ER (dcell c (dq 4)) 0 false
    ∗ dutyTok ER (dcell c (dq 8)) 0 false ∗ dutyTok ER (dcell c (dq 9)) 0 false ∗ dutyTok ER (dcell c (dq 10)) 0 false
    ∗ dutyTok ER (dcell (nxt c) (dq 5)) 0 false ∗ dutyTok ER (dcell (nxt c) (dq 6)) 0 false ∗ dutyTok ER (dcell (nxt c) (dq 7)) 0 false
    ∗ dutyTok ER (dcell (prv c) (dq 11)) 0 false ∗ dutyTok ER (dcell (prv c) (dq 12)) 0 false ∗ dutyTok ER (dcell (prv c) (dq 13)) 0 false)
/-- The credits its waits use up. -/
def creds0 (c : Dev nD) : sProp 𝕄 :=
  iprop(cred (tallyAt (bcell c bar0) () 2)
    ∗ cred (tallyAt (dcell c (dq 5)) () N0) ∗ cred (tallyAt (dcell c (dq 6)) () N0) ∗ cred (tallyAt (dcell c (dq 7)) () N0)
    ∗ cred (tallyAt (dcell c (dq 11)) () N0) ∗ cred (tallyAt (dcell c (dq 12)) () N0) ∗ cred (tallyAt (dcell c (dq 13)) () N0))
/-- A device's twelve cells, each at some state `Ψ`. -/
def twelve (Ψ : DmaSem sig → sProp 𝕄) : sProp 𝕄 := bigSep Finset.univ fun k : Fin 12 => Ψ (sem0 k)
omit [FloatOps F] in
theorem twelve_eq (Ψ : DmaSem sig → sProp 𝕄) : twelve Ψ = iprop(Ψ (dq 2) ∗ Ψ (dq 3) ∗ Ψ (dq 4) ∗ Ψ (dq 5) ∗ Ψ (dq 6) ∗ Ψ (dq 7)
    ∗ Ψ (dq 8) ∗ Ψ (dq 9) ∗ Ψ (dq 10) ∗ Ψ (dq 11) ∗ Ψ (dq 12) ∗ Ψ (dq 13)) := by
  unfold twelve
  rw [bigSep_univ_eq_bigSepL [0, 1, 2, 3, 4, 5, 6, 7, 8, 9, 10, 11] (by decide) (by decide)]
  rfl

/-- A store of half a device's rows into slot `k`. -/
def put0 (k : ℕ) (hk : k < 8) (f : AgC F) (w : S1x512x4096.Idx → Elt F .bf16) : AgC F :=
  ((Memref.whole cc0_stg1_0).access (rect0 k hk) : View sig .tc _ _ _).write (Elt F) f w Finset.univ
/-- The gathered buffer after the two opening stores, before anything has arrived. -/
def opened0 (x : S1024x4096.Idx → Elt F .bf16) (f : AgC F) : AgC F :=
  put0 1 (by decide) (put0 0 (by decide) f
      (k0_pay1 ((Memref.whole cc0_stg0_0).view.readAt (Elt F) (Rect.unit (s := S1024x4096) ![0, 0] S512x4096.size inb_S1024x4096_S512x4096_0_0).toLoadRect x)))
    (k0_pay2 ((Memref.whole cc0_stg0_0).view.readAt (Elt F) (Rect.unit (s := S1024x4096) ![512, 0] S512x4096.size inb_S1024x4096_S512x4096_512_0).toLoadRect x))
omit [FloatOps F] in
theorem ag_apply (c : Dev nD) (i : S8x512x4096.Idx) (k : ℕ) (h : (i 0).val = k) :
    ag X c i = X (srcDev c k) (rowIx (srcHalf k) (srcHalf_lt k) (i 1) (i 2)) := by subst h; rfl
theorem opened0_slot0 (c : Dev nD) (f : AgC F) : (pts0 c 0 (opened0 (X c) f) : sProp 𝕄) = pts0 c 0 (ag X c) :=
  pts0_congr c 0 _ _ _ fun i hi => by
    unfold opened0 put0
    rw [store0_off 1 _ _ _ i (by omega), store0_on 0 _ _ _ i hi, half_lo]
    exact (ag_apply X c i _ hi).symm
theorem opened0_slot1 (c : Dev nD) (f : AgC F) : (pts0 c 1 (opened0 (X c) f) : sProp 𝕄) = pts0 c 1 (ag X c) :=
  pts0_congr c 1 _ _ _ fun i hi => by
    unfold opened0 put0
    rw [store0_on 1 _ _ _ i hi, half_hi]
    exact (ag_apply X c i _ hi).symm

/-- What region 0's body starts from, and what it ends with. -/
def pre0 (c : Dev nD) (f : AgC F) : sProp 𝕄 :=
  iprop(recs X A K ∗ levAts L lv ∗ atPos ER (bcell c bar0) 0 ∅ 0 ∗ twelve (at0 c) ∗ toks0 c ∗ creds0 c
    ∗ ((c : Thread nD τ).loc cc0_stg0_0 ↦{fullShare} X c) ∗ ((c : Thread nD τ).loc cc0_stg1_0 ↦{fullShare} f) ∗ owed c (dues0 c))
def post0 (c : Dev nD) : sProp 𝕄 :=
  iprop(semVal (bcell c bar0) 0 ∗ twelve (fun q => semVal (dcell c q) 0)
    ∗ ((c : Thread nD τ).loc cc0_stg0_0 ↦{fullShare} X c) ∗ ((c : Thread nD τ).loc cc0_stg1_0 ↦{fullShare} (ag X c : AgC F)) ∗ owed c (dues2 c))

set_option maxHeartbeats 4000000 in
set_option pp.maxSteps 60 in
/-- Region 0's body, on any device. -/
theorem run0 (c : Dev nD) (f : AgC F) (Kt : PUnit → sProp 𝕄) :
    pre0 X A K c f ⊢ iprop((post0 X c -∗ Kt ⟨⟩)
      -∗ wp frame (wpE (defs₀ (F := F)) 𝒱₀ (c : Thread nD τ) none) Set.univ
          (cc0__ag_body (F := F) (Memref.whole cc0_stg0_0) (Memref.isWhole_whole _) (Memref.whole cc0_stg1_0) (Memref.isWhole_whole _)
            cc0_scratch0 cc0_scratch1 cc0_scratch2 cc0_scratch3) Kt) := by
  simp only [cc0__ag_body_eq_skeleton]
  unfold cc0__ag_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]

  simp only [sems0]
  unfold pre0 toks0 creds0 dues0
  rw [twelve_eq]
  unfold at0
  iintro ⟨#HR, #Hlev, HatB, ⟨⟨A2, #R2⟩, ⟨A3, #R3⟩, ⟨A4, #R4⟩, ⟨A5, #R5⟩, ⟨A6, #R6⟩, ⟨A7, #R7⟩, ⟨A8, #R8⟩, ⟨A9, #R9⟩, ⟨A10, #R10⟩, ⟨A11, #R11⟩, ⟨A12, #R12⟩, ⟨A13, #R13⟩⟩,
    ⟨TBl, TBr, T2, T3, T4, T8, T9, T10, T5, T6, T7, T11, T12, T13⟩, ⟨CB, C5, C6, C7, C11, C12, C13⟩, Hx, Ho, HO⟩ Hk
  -- the two opening stores
  have h08 : 0 < 8 := by decide
  have h18 : 1 < 8 := by decide
  have h28 : 2 < 8 := by decide
  have h38 : 3 < 8 := by decide
  have h48 : 4 < 8 := by decide
  have h58 : 5 < 8 := by decide
  have h68 : 6 < 8 := by decide
  have h78 : 7 < 8 := by decide
  iapply (wp_load 𝒱₀ (c : Thread nD τ) none Set.univ (m := Memref.whole cc0_stg0_0) (Finset.subset_univ _)) $$ Hx
  iintro Hx
  iapply (wp_load 𝒱₀ (c : Thread nD τ) none Set.univ (m := Memref.whole cc0_stg1_0) (Finset.subset_univ _)) $$ Ho
  iintro Ho
  iapply (wp_store 𝒱₀ (c : Thread nD τ) none Set.univ (m := Memref.whole cc0_stg1_0) (r := rect0 0 h08) (Mk := Finset.univ) (Finset.subset_univ _)) $$ Ho
  iintro Ho
  iapply (wp_load 𝒱₀ (c : Thread nD τ) none Set.univ (m := Memref.whole cc0_stg0_0) (Finset.subset_univ _)) $$ Hx
  iintro Hx
  iapply (wp_load 𝒱₀ (c : Thread nD τ) none Set.univ (m := Memref.whole cc0_stg1_0) (Finset.subset_univ _)) $$ Ho
  iintro Ho
  iapply (wp_store 𝒱₀ (c : Thread nD τ) none Set.univ (m := Memref.whole cc0_stg1_0) (r := rect0 1 h18) (Mk := Finset.univ) (Finset.subset_univ _)) $$ Ho
  iintro Ho
  ihave Hs := (Entails.of_eq (whole0 c (opened0 (X c) f))) $$ [Ho]
  · unfold opened0 put0; iexact Ho
  icases Hs with ⟨S0, S1, S2, S3, S4, S5, S6, S7⟩
  ihave S0 := (Entails.of_eq (opened0_slot0 X c f)) $$ S0
  ihave S1 := (Entails.of_eq (opened0_slot1 X c f)) $$ S1
  -- the entry barrier: slots 2 to 4 to the left, 5 to 7 to the right; the neighbours' slots in return
  iapply (wp_sig X A K c (prv c) _ (to_left _ (k0_dev1_eq c)) bar0 true _ rfl) $$ [HO TBl S2 S3 S4]
  · isplitr; · iexact HR
    isplitl [HO]; · iexact HO
    isplitl [TBl]; · iexact TBl
    rw [show (barPay (prv c) bar0 true : sProp 𝕄) = bar0R c from congrArg bar0R (nxt_prv c)]
    unfold bar0R
    isplitl [S2 S3 S4]
    · isplitl [S2]; · iexists _; iexact S2
      isplitl [S3]; · iexists _; iexact S3
      iexists _; iexact S4
    isplitr; · iexact R5
    isplitr; · iexact R6
    iexact R7
  iintro HO
  iapply (wp_sig X A K c (nxt c) _ (to_right _ (k0_dev2_eq c)) bar0 false _ rfl) $$ [HO TBr S5 S6 S7]
  · isplitr; · iexact HR
    isplitl [HO]; · iexact HO
    isplitl [TBr]; · iexact TBr
    rw [show (barPay (nxt c) bar0 false : sProp 𝕄) = bar0L c from congrArg bar0L (prv_nxt c)]
    unfold bar0L
    isplitl [S5 S6 S7]
    · isplitl [S5]; · iexists _; iexact S5
      isplitl [S6]; · iexists _; iexact S6
      iexists _; iexact S7
    isplitr; · iexact R11
    isplitr; · iexact R12
    iexact R13
  iintro HO
  iapply (wp_bar X A K c bar0 _ (above_h0 c) rfl) $$ [CB HO HatB]
  · isplitr; · iexact HR
    isplitr; · iexact Hlev
    isplitl [CB]; · iexact CB
    isplitl [HO]; · iexact HO
    iexact HatB
  iintro ⟨HO, HatB, HL, HRt⟩
  ihave HL' := (Entails.of_eq (show (barPay c bar0 false : sProp 𝕄) = bar0L (prv c) from rfl)) $$ HL
  ihave HRt' := (Entails.of_eq (show (barPay c bar0 true : sProp 𝕄) = bar0R (nxt c) from rfl)) $$ HRt
  unfold bar0L bar0R
  icases HL' with ⟨⟨⟨%g5, D5⟩, ⟨%g6, D6⟩, ⟨%g7, D7⟩⟩, #L11, #L12, #L13⟩
  icases HRt' with ⟨⟨⟨%g2, D2⟩, ⟨%g3, D3⟩, ⟨%g4, D4⟩⟩, #L5, #L6, #L7⟩
  -- hop 0
  iapply (wp_hop0 X A K c (nxt c) _ (to_right _ (k0_dev3_eq c)) 1 2 h18 h28 q2 q5 rfl rfl rfl rfl rfl rfl
      (by simp only [srcDev, prv_nxt]) rfl _ g2) $$ [S1 D2 HO T2 T5]
  · isplitr; · iexact HR
    isplitl [S1]; · iexact S1
    isplitl [D2]; · iexact D2
    isplitl [HO]; · iexact HO
    isplitl [T2]; · iexact T2
    isplitr; · iexact R2
    isplitl [T5]; · iexact T5
    iexact L5
  iintro ⟨C2, HO⟩
  iapply (wp_hop0 X A K c (prv c) _ (to_left _ (k0_dev4_eq c)) 0 5 h08 h58 q8 q11 rfl rfl rfl rfl rfl rfl
      (by simp only [srcDev, nxt_prv]) rfl _ g5) $$ [S0 D5 HO T8 T11]
  · isplitr; · iexact HR
    isplitl [S0]; · iexact S0
    isplitl [D5]; · iexact D5
    isplitl [HO]; · iexact HO
    isplitl [T8]; · iexact T8
    isplitr; · iexact R8
    isplitl [T11]; · iexact T11
    iexact L11
  iintro ⟨C8, HO⟩
  iapply (wp_rcv X A K c q2 rfl _ (above_mono (by decide) (above_h1 c)) (src := slot0 2 h28) (dst := slot0 1 h18) rfl) $$ [C2 HO A2]
  · isplitr; · iexact HR
    isplitr; · iexact Hlev
    isplitl [C2]; · iexact C2
    isplitl [HO]; · iexact HO
    unfold at0
    isplitl [A2]; · iexact A2
    iexact R2
  iintro ⟨HO, A2, HP⟩
  ihave S1 := (Entails.of_eq (show dmaPay X A c q2.val = pts0 c 1 (ag X c) from rfl)) $$ HP
  iapply (wp_rcv X A K c q5 rfl _ (above_mono (by decide) (above_h1 c)) (src := slot0 1 h18) (dst := slot0 2 h28) rfl) $$ [C5 HO A5]
  · isplitr; · iexact HR
    isplitr; · iexact Hlev
    isplitl [C5]; · iexact C5
    isplitl [HO]; · iexact HO
    unfold at0
    isplitl [A5]; · iexact A5
    iexact R5
  iintro ⟨HO, A5, HP⟩
  ihave S2 := (Entails.of_eq (show dmaPay X A c q5.val = pts0 c 2 (ag X c) from rfl)) $$ HP
  iapply (wp_rcv X A K c q8 rfl _ (above_mono (by decide) (above_h1 c)) (src := slot0 5 h58) (dst := slot0 0 h08) rfl) $$ [C8 HO A8]
  · isplitr; · iexact HR
    isplitr; · iexact Hlev
    isplitl [C8]; · iexact C8
    isplitl [HO]; · iexact HO
    unfold at0
    isplitl [A8]; · iexact A8
    iexact R8
  iintro ⟨HO, A8, HP⟩
  ihave S0 := (Entails.of_eq (show dmaPay X A c q8.val = pts0 c 0 (ag X c) from rfl)) $$ HP
  iapply (wp_rcv X A K c q11 rfl _ (above_mono (by decide) (above_h1 c)) (src := slot0 0 h08) (dst := slot0 5 h58) rfl) $$ [C11 HO A11]
  · isplitr; · iexact HR
    isplitr; · iexact Hlev
    isplitl [C11]; · iexact C11
    isplitl [HO]; · iexact HO
    unfold at0
    isplitl [A11]; · iexact A11
    iexact R11
  iintro ⟨HO, A11, HP⟩
  ihave S5 := (Entails.of_eq (show dmaPay X A c q11.val = pts0 c 5 (ag X c) from rfl)) $$ HP
  -- hop 1
  iapply (wp_hop0 X A K c (nxt c) _ (to_right _ (k0_dev5_eq c)) 2 3 h28 h38 q3 q6 rfl rfl rfl rfl rfl rfl
      (by simp only [srcDev, prv_nxt]) rfl _ g3) $$ [S2 D3 HO T3 T6]
  · isplitr; · iexact HR
    isplitl [S2]; · iexact S2
    isplitl [D3]; · iexact D3
    isplitl [HO]; · iexact HO
    isplitl [T3]; · iexact T3
    isplitr; · iexact R3
    isplitl [T6]; · iexact T6
    iexact L6
  iintro ⟨C3, HO⟩
  iapply (wp_hop0 X A K c (prv c) _ (to_left _ (k0_dev6_eq c)) 5 6 h58 h68 q9 q12 rfl rfl rfl rfl rfl rfl
      (by simp only [srcDev, nxt_prv]) rfl _ g6) $$ [S5 D6 HO T9 T12]
  · isplitr; · iexact HR
    isplitl [S5]; · iexact S5
    isplitl [D6]; · iexact D6
    isplitl [HO]; · iexact HO
    isplitl [T9]; · iexact T9
    isplitr; · iexact R9
    isplitl [T12]; · iexact T12
    iexact L12
  iintro ⟨C9, HO⟩
  iapply (wp_rcv X A K c q3 rfl _ (above_mono (by decide) (above_h2 c)) (src := slot0 3 h38) (dst := slot0 2 h28) rfl) $$ [C3 HO A3]
  · isplitr; · iexact HR
    isplitr; · iexact Hlev
    isplitl [C3]; · iexact C3
    isplitl [HO]; · iexact HO
    unfold at0
    isplitl [A3]; · iexact A3
    iexact R3
  iintro ⟨HO, A3, HP⟩
  ihave S2 := (Entails.of_eq (show dmaPay X A c q3.val = pts0 c 2 (ag X c) from rfl)) $$ HP
  iapply (wp_rcv X A K c q6 rfl _ (above_mono (by decide) (above_h2 c)) (src := slot0 2 h28) (dst := slot0 3 h38) rfl) $$ [C6 HO A6]
  · isplitr; · iexact HR
    isplitr; · iexact Hlev
    isplitl [C6]; · iexact C6
    isplitl [HO]; · iexact HO
    unfold at0
    isplitl [A6]; · iexact A6
    iexact R6
  iintro ⟨HO, A6, HP⟩
  ihave S3 := (Entails.of_eq (show dmaPay X A c q6.val = pts0 c 3 (ag X c) from rfl)) $$ HP
  iapply (wp_rcv X A K c q9 rfl _ (above_mono (by decide) (above_h2 c)) (src := slot0 6 h68) (dst := slot0 5 h58) rfl) $$ [C9 HO A9]
  · isplitr; · iexact HR
    isplitr; · iexact Hlev
    isplitl [C9]; · iexact C9
    isplitl [HO]; · iexact HO
    unfold at0
    isplitl [A9]; · iexact A9
    iexact R9
  iintro ⟨HO, A9, HP⟩
  ihave S5 := (Entails.of_eq (show dmaPay X A c q9.val = pts0 c 5 (ag X c) from rfl)) $$ HP
  iapply (wp_rcv X A K c q12 rfl _ (above_mono (by decide) (above_h2 c)) (src := slot0 5 h58) (dst := slot0 6 h68) rfl) $$ [C12 HO A12]
  · isplitr; · iexact HR
    isplitr; · iexact Hlev
    isplitl [C12]; · iexact C12
    isplitl [HO]; · iexact HO
    unfold at0
    isplitl [A12]; · iexact A12
    iexact R12
  iintro ⟨HO, A12, HP⟩
  ihave S6 := (Entails.of_eq (show dmaPay X A c q12.val = pts0 c 6 (ag X c) from rfl)) $$ HP
  -- hop 2
  iapply (wp_hop0 X A K c (nxt c) _ (to_right _ (k0_dev7_eq c)) 3 4 h38 h48 q4 q7 rfl rfl rfl rfl rfl rfl
      (by simp only [srcDev, prv_nxt]) rfl _ g4) $$ [S3 D4 HO T4 T7]
  · isplitr; · iexact HR
    isplitl [S3]; · iexact S3
    isplitl [D4]; · iexact D4
    isplitl [HO]; · iexact HO
    isplitl [T4]; · iexact T4
    isplitr; · iexact R4
    isplitl [T7]; · iexact T7
    iexact L7
  iintro ⟨C4, HO⟩
  iapply (wp_hop0 X A K c (prv c) _ (to_left _ (k0_dev8_eq c)) 6 7 h68 h78 q10 q13 rfl rfl rfl rfl rfl rfl
      (by simp only [srcDev, nxt_prv]) rfl _ g7) $$ [S6 D7 HO T10 T13]
  · isplitr; · iexact HR
    isplitl [S6]; · iexact S6
    isplitl [D7]; · iexact D7
    isplitl [HO]; · iexact HO
    isplitl [T10]; · iexact T10
    isplitr; · iexact R10
    isplitl [T13]; · iexact T13
    iexact L13
  iintro ⟨C10, HO⟩
  iapply (wp_rcv X A K c q4 rfl _ (above_mono (by decide) (above_d2 c)) (src := slot0 4 h48) (dst := slot0 3 h38) rfl) $$ [C4 HO A4]
  · isplitr; · iexact HR
    isplitr; · iexact Hlev
    isplitl [C4]; · iexact C4
    isplitl [HO]; · iexact HO
    unfold at0
    isplitl [A4]; · iexact A4
    iexact R4
  iintro ⟨HO, A4, HP⟩
  ihave S3 := (Entails.of_eq (show dmaPay X A c q4.val = pts0 c 3 (ag X c) from rfl)) $$ HP
  iapply (wp_rcv X A K c q7 rfl _ (above_mono (by decide) (above_d2 c)) (src := slot0 3 h38) (dst := slot0 4 h48) rfl) $$ [C7 HO A7]
  · isplitr; · iexact HR
    isplitr; · iexact Hlev
    isplitl [C7]; · iexact C7
    isplitl [HO]; · iexact HO
    unfold at0
    isplitl [A7]; · iexact A7
    iexact R7
  iintro ⟨HO, A7, HP⟩
  ihave S4 := (Entails.of_eq (show dmaPay X A c q7.val = pts0 c 4 (ag X c) from rfl)) $$ HP
  iapply (wp_rcv X A K c q10 rfl _ (above_mono (by decide) (above_d2 c)) (src := slot0 7 h78) (dst := slot0 6 h68) rfl) $$ [C10 HO A10]
  · isplitr; · iexact HR
    isplitr; · iexact Hlev
    isplitl [C10]; · iexact C10
    isplitl [HO]; · iexact HO
    unfold at0
    isplitl [A10]; · iexact A10
    iexact R10
  iintro ⟨HO, A10, HP⟩
  ihave S6 := (Entails.of_eq (show dmaPay X A c q10.val = pts0 c 6 (ag X c) from rfl)) $$ HP
  iapply (wp_rcv X A K c q13 rfl _ (above_mono (by decide) (above_d2 c)) (src := slot0 6 h68) (dst := slot0 7 h78) rfl) $$ [C13 HO A13]
  · isplitr; · iexact HR
    isplitr; · iexact Hlev
    isplitl [C13]; · iexact C13
    isplitl [HO]; · iexact HO
    unfold at0
    isplitl [A13]; · iexact A13
    iexact R13
  iintro ⟨HO, A13, HP⟩
  ihave S7 := (Entails.of_eq (show dmaPay X A c q13.val = pts0 c 7 (ag X c) from rfl)) $$ HP
  -- every cell's one round is over: its counter is back at zero
  rw [wp_ret]
  imod (closeBar X A K c bar0) $$ [HatB] with ZB
  · isplitr; · iexact HR
    iexact HatB
  imod (close1 X A K c q2 rfl) $$ [A2] with Z2
  · isplitr; · iexact HR
    iexact A2
  imod (close1 X A K c q3 rfl) $$ [A3] with Z3
  · isplitr; · iexact HR
    iexact A3
  imod (close1 X A K c q4 rfl) $$ [A4] with Z4
  · isplitr; · iexact HR
    iexact A4
  imod (close1 X A K c q5 rfl) $$ [A5] with Z5
  · isplitr; · iexact HR
    iexact A5
  imod (close1 X A K c q6 rfl) $$ [A6] with Z6
  · isplitr; · iexact HR
    iexact A6
  imod (close1 X A K c q7 rfl) $$ [A7] with Z7
  · isplitr; · iexact HR
    iexact A7
  imod (close1 X A K c q8 rfl) $$ [A8] with Z8
  · isplitr; · iexact HR
    iexact A8
  imod (close1 X A K c q9 rfl) $$ [A9] with Z9
  · isplitr; · iexact HR
    iexact A9
  imod (close1 X A K c q10 rfl) $$ [A10] with Z10
  · isplitr; · iexact HR
    iexact A10
  imod (close1 X A K c q11 rfl) $$ [A11] with Z11
  · isplitr; · iexact HR
    iexact A11
  imod (close1 X A K c q12 rfl) $$ [A12] with Z12
  · isplitr; · iexact HR
    iexact A12
  imod (close1 X A K c q13 rfl) $$ [A13] with Z13
  · isplitr; · iexact HR
    iexact A13
  imodintro
  iapply Hk
  unfold post0
  rw [twelve_eq, whole0]
  isplitl [ZB]; · iexact ZB
  isplitl [Z2 Z3 Z4 Z5 Z6 Z7 Z8 Z9 Z10 Z11 Z12 Z13]
  · iframe
  isplitl [Hx]; · iexact Hx
  isplitl [S0 S1 S2 S3 S4 S5 S6 S7]
  · iframe
  iexact HO

end Cert.Ring

end

end
-- ==== Proof.Body2.lean ====
/-
# Region 2: the ring reduction's body

Every device's number travels the ring to the right, three hops. From the number `A c` on every device the body makes, on
every device, the greatest entry of the buffer `cm A c` that then holds all four.
-/
module

public import proofs.«01_k».proof.Proof.Body0

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The six semaphores, as the program picks them. -/
theorem sems2 :
    ((cc2_scratch2.slice (Rect.unit (s := S3) ![0] ![1] inb_S3_S1_0)).squeeze S_ squeezes_S1_S_).sem = dq 23
    ∧ ((cc2_scratch2.slice (Rect.unit (s := S3) ![1] ![1] inb_S3_S1_1)).squeeze S_ squeezes_S1_S_).sem = dq 24
    ∧ ((cc2_scratch2.slice (Rect.unit (s := S3) ![2] ![1] inb_S3_S1_2)).squeeze S_ squeezes_S1_S_).sem = dq 25
    ∧ ((cc2_scratch3.slice (Rect.unit (s := S3) ![0] ![1] inb_S3_S1_0)).squeeze S_ squeezes_S1_S_).sem = dq 26
    ∧ ((cc2_scratch3.slice (Rect.unit (s := S3) ![1] ![1] inb_S3_S1_1)).squeeze S_ squeezes_S1_S_).sem = dq 27
    ∧ ((cc2_scratch3.slice (Rect.unit (s := S3) ![2] ![1] inb_S3_S1_2)).squeeze S_ squeezes_S1_S_).sem = dq 28 := ⟨rfl, rfl, rfl, rfl, rfl, rfl⟩

/-- The same, named. -/
abbrev q23 : DmaSem sig := dq 23
abbrev q24 : DmaSem sig := dq 24
abbrev q25 : DmaSem sig := dq 25
abbrev q26 : DmaSem sig := dq 26
abbrev q27 : DmaSem sig := dq 27
abbrev q28 : DmaSem sig := dq 28

/-- What is owed, and at which levels, as region 2 goes on. -/
theorem above_c2 (c : Dev nD) : above 7 [(dcell (nxt c) (dq 28), N2)] := above_cons rfl (of_decide_eq_true rfl) (above_nil _)
theorem above_c1 (c : Dev nD) : above 6 [(dcell (nxt c) (dq 27), N2), (dcell (nxt c) (dq 28), N2)] :=
  above_cons rfl (of_decide_eq_true rfl) (above_mono (by decide) (above_c2 c))
theorem above_c0 (c : Dev nD) : above 5 [(dcell (nxt c) (dq 26), N2), (dcell (nxt c) (dq 27), N2), (dcell (nxt c) (dq 28), N2)] :=
  above_cons rfl (of_decide_eq_true rfl) (above_mono (by decide) (above_c1 c))

variable (X : Dev nD → S1024x4096.Idx → Elt F .bf16) (A : Dev nD → Elt F .f32) (K : GSem nD τ sig → ℕ)

/-- The rights to pay that region 2 uses up. -/
def toks2 (c : Dev nD) : sProp 𝕄 :=
  iprop(dutyTok ER (bcell (prv c) bar1) 0 true ∗ dutyTok ER (bcell (nxt c) bar1) 0 false
    ∗ dutyTok ER (dcell c (dq 23)) 0 false ∗ dutyTok ER (dcell c (dq 24)) 0 false ∗ dutyTok ER (dcell c (dq 25)) 0 false
    ∗ dutyTok ER (dcell (nxt c) (dq 26)) 0 false ∗ dutyTok ER (dcell (nxt c) (dq 27)) 0 false ∗ dutyTok ER (dcell (nxt c) (dq 28)) 0 false)
/-- The credits its waits use up. -/
def creds2 (c : Dev nD) : sProp 𝕄 :=
  iprop(cred (tallyAt (bcell c bar1) () 2)
    ∗ cred (tallyAt (dcell c (dq 26)) () N2) ∗ cred (tallyAt (dcell c (dq 27)) () N2) ∗ cred (tallyAt (dcell c (dq 28)) () N2))
/-- A device's six cells, each at some state `Ψ`. -/
def six (Ψ : DmaSem sig → sProp 𝕄) : sProp 𝕄 := bigSep Finset.univ fun k : Fin 6 => Ψ (sem2 k)
omit [FloatOps F] in
theorem six_eq (Ψ : DmaSem sig → sProp 𝕄) : six Ψ = iprop(Ψ (dq 23) ∗ Ψ (dq 24) ∗ Ψ (dq 25) ∗ Ψ (dq 26) ∗ Ψ (dq 27) ∗ Ψ (dq 28)) := by
  unfold six
  rw [bigSep_univ_eq_bigSepL [0, 1, 2, 3, 4, 5] (by decide) (by decide)]
  rfl

/-- The reduction's buffer after the opening store of a number `a` all over slot 0. -/
def opened2 (a : Elt F .f32) (f : CmC F) (h0 : 0 < 4) : CmC F :=
  ((Memref.whole cc2_scratch0).access (rect2 0 h0) : View sig .tc _ _ _).write (Elt F) f (k2_pay2 a) Finset.univ
theorem opened2_slot0 (c : Dev nD) (f : CmC F) (h0 : 0 < 4) : (pts2 c 0 (opened2 (A c) f h0) h0 : sProp 𝕄) = pts2 c 0 (cm A c) h0 :=
  pts2_congr c 0 _ _ _ fun i hi => by
    have hm := (mem_slot2 0 h0 i).mpr hi
    rw [View.set_reshape] at hm
    obtain ⟨x, -, hx⟩ := Finset.mem_map.mp hm
    subst hx
    unfold opened2
    refine (View.write_emb_of_mem (v := ((Memref.whole cc2_scratch0).access (rect2 0 h0) : View sig .tc _ _ _)) (Val := Elt F) _ _ (Finset.mem_univ x)).trans ?_
    refine (eq_of_heq (cast_heq _ _)).trans ?_
    show A c = A (srcDev2 c _)
    rw [hi]; rfl

/-- What region 2's body starts from, and what it ends with. -/
def pre2 (c : Dev nD) (f : CmC F) (o : S1x1.Idx → Elt F .f32) : sProp 𝕄 :=
  iprop(recs X A K ∗ levAts L lv ∗ atPos ER (bcell c bar1) 0 ∅ 0 ∗ six (at0 c) ∗ toks2 c ∗ creds2 c
    ∗ ((c : Thread nD τ).loc cc2_scratch0 ↦{fullShare} f)
    ∗ ((c : Thread nD τ).loc cc2_stg0_0 ↦{fullShare} (fun _ : S1x1.Idx => A c)) ∗ ((c : Thread nD τ).loc cc2_stg1_0 ↦{fullShare} o) ∗ owed c (dues2 c))
def post2 (c : Dev nD) : sProp 𝕄 :=
  iprop(semVal (bcell c bar1) 0 ∗ six (fun q => semVal (dcell c q) 0)
    ∗ ((c : Thread nD τ).loc cc2_scratch0 ↦{fullShare} (cm A c : CmC F))
    ∗ ((c : Thread nD τ).loc cc2_stg0_0 ↦{fullShare} (fun _ : S1x1.Idx => A c))
    ∗ ((c : Thread nD τ).loc cc2_stg1_0 ↦{fullShare} (fun _ : S1x1.Idx => k2_pay1 (cm A c))) ∗ owed c [])

set_option maxHeartbeats 4000000 in
set_option pp.maxSteps 60 in
/-- Region 2's body, on any device. -/
theorem run2 (c : Dev nD) (f : CmC F) (o : S1x1.Idx → Elt F .f32) (Kt : PUnit → sProp 𝕄) :
    pre2 X A K c f o ⊢ iprop((post2 A c -∗ Kt ⟨⟩)
      -∗ wp frame (wpE (defs₀ (F := F)) 𝒱₀ (c : Thread nD τ) none) Set.univ
          (cc2__armax_body (F := F) (Memref.whole cc2_stg0_0) (Memref.isWhole_whole _) (Memref.whole cc2_stg1_0) (Memref.isWhole_whole _)
            (Memref.whole cc2_scratch0) (Memref.isWhole_whole _) cc2_scratch1 cc2_scratch2 cc2_scratch3) Kt) := by
  have h04 : 0 < 4 := by decide
  have h14 : 1 < 4 := by decide
  have h24 : 2 < 4 := by decide
  have h34 : 3 < 4 := by decide
  simp only [cc2__armax_body_eq_skeleton]
  unfold cc2__armax_body_skel
  simp only [k2_part1_eq_skeleton, k2_part2_eq_skeleton, k2_part3_eq_skeleton]
  unfold k2_part1_skel k2_part2_skel k2_part3_skel
  simp only [semSignalWord, semWaitWord, smemLoad, smemLoadElt, Prog.lift, Prog.bind_op, Prog.bind_ret, Prog.pure_eq_ret, Prog.bind_assoc, wp_deviceId]
  simp only [sems2]
  unfold pre2 toks2 creds2 dues2
  rw [six_eq]
  unfold at0
  iintro ⟨#HR, #Hlev, HatB, ⟨⟨A23, #R23⟩, ⟨A24, #R24⟩, ⟨A25, #R25⟩, ⟨A26, #R26⟩, ⟨A27, #R27⟩, ⟨A28, #R28⟩⟩,
    ⟨TBl, TBr, T23, T24, T25, T26, T27, T28⟩, ⟨CB, C26, C27, C28⟩, Hm, Hi, Ho, HO⟩ Hk
  -- the opening store
  iapply (wp_load 𝒱₀ (c : Thread nD τ) none Set.univ (m := Memref.whole cc2_stg0_0) (Finset.subset_univ _)) $$ Hi
  iintro Hi
  iapply (wp_load 𝒱₀ (c : Thread nD τ) none Set.univ (m := Memref.whole cc2_scratch0) (Finset.subset_univ _)) $$ Hm
  iintro Hm
  iapply (wp_store 𝒱₀ (c : Thread nD τ) none Set.univ (m := Memref.whole cc2_scratch0) (r := rect2 0 h04) (Mk := Finset.univ) (Finset.subset_univ _)) $$ Hm
  iintro Hm
  ihave Hs := (Entails.of_eq (whole2 c (opened2 (A c) f h04))) $$ [Hm]
  · unfold opened2; iexact Hm
  icases Hs with ⟨S0, S1, S2, S3⟩
  ihave S0 := (Entails.of_eq (opened2_slot0 A c f h04)) $$ S0
  -- the entry barrier: slots 1 to 3 to the left; the right neighbour's in return
  iapply (wp_sig X A K c (prv c) _ (to_left _ (k2_dev1_eq c)) bar1 true _ rfl) $$ [HO TBl S1 S2 S3]
  · isplitr; · iexact HR
    isplitl [HO]; · iexact HO
    isplitl [TBl]; · iexact TBl
    rw [show (barPay (prv c) bar1 true : sProp 𝕄) = bar1R c from congrArg bar1R (nxt_prv c)]
    unfold bar1R
    isplitl [S1 S2 S3]
    · isplitl [S1]; · iexists _; iexact S1
      isplitl [S2]; · iexists _; iexact S2
      iexists _; iexact S3
    isplitr; · iexact R26
    isplitr; · iexact R27
    iexact R28
  iintro HO
  iapply (wp_sig X A K c (nxt c) _ (to_right _ (k2_dev2_eq c)) bar1 false _ rfl) $$ [HO TBr]
  · isplitr; · iexact HR
    isplitl [HO]; · iexact HO
    isplitl [TBr]; · iexact TBr
    rw [show (barPay (nxt c) bar1 false : sProp 𝕄) = iprop(emp) from rfl]
    iempintro
  iintro HO
  iapply (wp_bar X A K c bar1 _ (above_c0 c) rfl) $$ [CB HO HatB]
  · isplitr; · iexact HR
    isplitr; · iexact Hlev
    isplitl [CB]; · iexact CB
    isplitl [HO]; · iexact HO
    iexact HatB
  iintro ⟨HO, HatB, -, HRt⟩
  ihave HRt' := (Entails.of_eq (show (barPay c bar1 true : sProp 𝕄) = bar1R (nxt c) from rfl)) $$ HRt
  unfold bar1R
  icases HRt' with ⟨⟨⟨%g1, D1⟩, ⟨%g2, D2⟩, ⟨%g3, D3⟩⟩, #L26, #L27, #L28⟩
  -- hop 0
  iapply (wp_hop2 X A K c (nxt c) _ (to_right _ (k2_dev3_eq c)) 0 1 h04 h14 q23 q26 rfl rfl rfl rfl rfl rfl
      (by simp only [srcDev2, prv_nxt]) _ g1) $$ [S0 D1 HO T23 T26]
  · isplitr; · iexact HR
    isplitl [S0]; · iexact S0
    isplitl [D1]; · iexact D1
    isplitl [HO]; · iexact HO
    isplitl [T23]; · iexact T23
    isplitr; · iexact R23
    isplitl [T26]; · iexact T26
    iexact L26
  iintro ⟨C23, HO⟩
  iapply (wp_rcv X A K c q23 rfl _ (above_mono (by decide) (above_c1 c)) (src := slot2 1 h14) (dst := slot2 0 h04) rfl) $$ [C23 HO A23]
  · isplitr; · iexact HR
    isplitr; · iexact Hlev
    isplitl [C23]; · iexact C23
    isplitl [HO]; · iexact HO
    unfold at0
    isplitl [A23]; · iexact A23
    iexact R23
  iintro ⟨HO, A23, HP⟩
  ihave S0 := (Entails.of_eq (show dmaPay X A c q23.val = pts2 c 0 (cm A c) from rfl)) $$ HP
  iapply (wp_rcv X A K c q26 rfl _ (above_mono (by decide) (above_c1 c)) (src := slot2 0 h04) (dst := slot2 1 h14) rfl) $$ [C26 HO A26]
  · isplitr; · iexact HR
    isplitr; · iexact Hlev
    isplitl [C26]; · iexact C26
    isplitl [HO]; · iexact HO
    unfold at0
    isplitl [A26]; · iexact A26
    iexact R26
  iintro ⟨HO, A26, HP⟩
  ihave S1 := (Entails.of_eq (show dmaPay X A c q26.val = pts2 c 1 (cm A c) from rfl)) $$ HP
  -- hop 1
  iapply (wp_hop2 X A K c (nxt c) _ (to_right _ (k2_dev4_eq c)) 1 2 h14 h24 q24 q27 rfl rfl rfl rfl rfl rfl
      (by simp only [srcDev2, prv_nxt]) _ g2) $$ [S1 D2 HO T24 T27]
  · isplitr; · iexact HR
    isplitl [S1]; · iexact S1
    isplitl [D2]; · iexact D2
    isplitl [HO]; · iexact HO
    isplitl [T24]; · iexact T24
    isplitr; · iexact R24
    isplitl [T27]; · iexact T27
    iexact L27
  iintro ⟨C24, HO⟩
  iapply (wp_rcv X A K c q24 rfl _ (above_mono (by decide) (above_c2 c)) (src := slot2 2 h24) (dst := slot2 1 h14) rfl) $$ [C24 HO A24]
  · isplitr; · iexact HR
    isplitr; · iexact Hlev
    isplitl [C24]; · iexact C24
    isplitl [HO]; · iexact HO
    unfold at0
    isplitl [A24]; · iexact A24
    iexact R24
  iintro ⟨HO, A24, HP⟩
  ihave S1 := (Entails.of_eq (show dmaPay X A c q24.val = pts2 c 1 (cm A c) from rfl)) $$ HP
  iapply (wp_rcv X A K c q27 rfl _ (above_mono (by decide) (above_c2 c)) (src := slot2 1 h14) (dst := slot2 2 h24) rfl) $$ [C27 HO A27]
  · isplitr; · iexact HR
    isplitr; · iexact Hlev
    isplitl [C27]; · iexact C27
    isplitl [HO]; · iexact HO
    unfold at0
    isplitl [A27]; · iexact A27
    iexact R27
  iintro ⟨HO, A27, HP⟩
  ihave S2 := (Entails.of_eq (show dmaPay X A c q27.val = pts2 c 2 (cm A c) from rfl)) $$ HP
  -- hop 2
  iapply (wp_hop2 X A K c (nxt c) _ (to_right _ (k2_dev5_eq c)) 2 3 h24 h34 q25 q28 rfl rfl rfl rfl rfl rfl
      (by simp only [srcDev2, prv_nxt]) _ g3) $$ [S2 D3 HO T25 T28]
  · isplitr; · iexact HR
    isplitl [S2]; · iexact S2
    isplitl [D3]; · iexact D3
    isplitl [HO]; · iexact HO
    isplitl [T25]; · iexact T25
    isplitr; · iexact R25
    isplitl [T28]; · iexact T28
    iexact L28
  iintro ⟨C25, HO⟩
  iapply (wp_rcv X A K c q25 rfl _ (above_nil _) (src := slot2 3 h34) (dst := slot2 2 h24) rfl) $$ [C25 HO A25]
  · isplitr; · iexact HR
    isplitr; · iexact Hlev
    isplitl [C25]; · iexact C25
    isplitl [HO]; · iexact HO
    unfold at0
    isplitl [A25]; · iexact A25
    iexact R25
  iintro ⟨HO, A25, HP⟩
  ihave S2 := (Entails.of_eq (show dmaPay X A c q25.val = pts2 c 2 (cm A c) from rfl)) $$ HP
  iapply (wp_rcv X A K c q28 rfl _ (above_nil _) (src := slot2 2 h24) (dst := slot2 3 h34) rfl) $$ [C28 HO A28]
  · isplitr; · iexact HR
    isplitr; · iexact Hlev
    isplitl [C28]; · iexact C28
    isplitl [HO]; · iexact HO
    unfold at0
    isplitl [A28]; · iexact A28
    iexact R28
  iintro ⟨HO, A28, HP⟩
  ihave S3 := (Entails.of_eq (show dmaPay X A c q28.val = pts2 c 3 (cm A c) from rfl)) $$ HP
  -- the four numbers are there: the result
  ihave Hm := (Entails.of_eq (whole2 c (cm A c)).symm) $$ [S0 S1 S2 S3]
  · iframe
  iapply (wp_load 𝒱₀ (c : Thread nD τ) none Set.univ (m := Memref.whole cc2_scratch0) (Finset.subset_univ _)) $$ Hm
  iintro Hm
  iapply (wp_load 𝒱₀ (c : Thread nD τ) none Set.univ (m := Memref.whole cc2_stg1_0) (Finset.subset_univ _)) $$ Ho
  iintro Ho
  iapply (wp_store 𝒱₀ (c : Thread nD τ) none Set.univ (m := Memref.whole cc2_stg1_0) (r := Rect.unit (s := S1x1) ![0, 0] S1x1.size inb_S1x1_S1x1_0_0) (Mk := Finset.univ) (Finset.subset_univ _)) $$ Ho
  iintro Ho
  rw [wp_ret]
  imod (closeBar X A K c bar1) $$ [HatB] with ZB
  · isplitr; · iexact HR
    iexact HatB
  imod (close1 X A K c (dq 23) rfl) $$ [A23] with Z23
  · isplitr; · iexact HR
    iexact A23
  imod (close1 X A K c (dq 24) rfl) $$ [A24] with Z24
  · isplitr; · iexact HR
    iexact A24
  imod (close1 X A K c (dq 25) rfl) $$ [A25] with Z25
  · isplitr; · iexact HR
    iexact A25
  imod (close1 X A K c (dq 26) rfl) $$ [A26] with Z26
  · isplitr; · iexact HR
    iexact A26
  imod (close1 X A K c (dq 27) rfl) $$ [A27] with Z27
  · isplitr; · iexact HR
    iexact A27
  imod (close1 X A K c (dq 28) rfl) $$ [A28] with Z28
  · isplitr; · iexact HR
    iexact A28
  imodintro
  iapply Hk
  unfold post2
  rw [six_eq]
  isplitl [ZB]; · iexact ZB
  isplitl [Z23 Z24 Z25 Z26 Z27 Z28]
  · iframe
  isplitl [Hm]; · iexact Hm
  isplitl [Hi]; · iexact Hi
  isplitl [Ho]
  · iapply (Entails.of_eq (congrArg (fun w => (((c : Thread nD τ).loc cc2_stg1_0 ↦{fullShare} w : sProp 𝕄)))
      ((Memref.write_access_unit_zero_univ (Elt F) cc2_stg1_0 (by decide) inb_S1x1_S1x1_0_0 o _).trans
        (congrArg (fun v => (fun _ : S1x1.Idx => k2_pay1 v)) (Memref.readAt_unit_zero (Elt F) cc2_scratch0 (by decide) inb_S4x8x128_S4x8x128_0_0_0 (cm A c))))))
    iexact Ho
  iexact HO

end Cert.Ring

end

end
-- ==== Proof.Values.lean ====
module

public import proofs.«01_k».proof.Proof.Table
public import proofs.«01_k».proof.Proof.Blocks
public import proofs.«01_k».proof.Proof.Body0
public import proofs.«01_k».proof.Proof.Body2
public import proofs.«01_k».proof.Proof.Gen.KernelIdeal.Points

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Device `c`'s table as the contents region 1 is handed. -/
def tab (c : Dev nD) : pre1.Contents (Elt F) := fun | 0 => perm c | ⟨_ + 1, h⟩ => absurd h (Nat.not_lt.2 (Nat.le_add_left _ _))
theorem perm_nat (c : Dev nD) (j : S8.Idx) (g : Fin 8) (h : (j 0).val = g.val) : (perm c j).toNat = slotOf c g := by
  obtain rfl : j 0 = g := Fin.ext h
  rw [perm_val, BitVec.toNat_ofNat]
  exact Nat.mod_eq_of_lt (lt_trans (slotOf_lt c _) (by decide : 8 < 2 ^ 32))
/-- The block of the gathered array the table names at a point. -/
theorem index_tab (c : Dev nD) (i : grid1.Coords) :
    cc1_transform_0 k1_off1_inb numel1_S1 (tab (F := F) c) i = ![slotOf c (i 0), 0, 0] := by
  have h : (perm c ((Rect.unit (s := S8) ![(Scalar.indexCast (BitVec.ofNat 32 (i 0).val) : Index).toNat] S1.size (k1_off1_inb i)).emb
      (Shape.Idx.first (numel1_S1.symm ▸ Nat.one_pos)))).toNat = slotOf c (i 0) :=
    perm_nat c _ (i 0) (congrArg (· + 0) (congrFun (k1_off1_eq i) 0))
  unfold cc1_transform_0
  funext a
  fin_cases a
  · exact h
  · rfl
  · rfl

theorem inb_slot : ∀ k : Fin 8, ∀ a, ((![k.val, 0, 0] : Fin 3 → ℕ) a + 1) * S1x512x4096.size a ≤ S8x512x4096.size a := by decide
theorem words_slot (k : Fin 8) : (Rect.block (s := S8x512x4096) S1x512x4096.size ![k.val, 0, 0] (inb_slot k)).WholeWords (EltTy.packing .bf16) := by
  revert k; decide +kernel

theorem tab_ok (c : Dev nD) : ok1 (tab (F := F) c) := by
  unfold ok1
  intro i
  rw [index_tab]
  exact ⟨inb_slot ⟨slotOf c (i 0), slotOf_lt c (i 0)⟩, .inr (words_slot ⟨slotOf c (i 0), slotOf_lt c (i 0)⟩)⟩

/-- Each region's tables, by device: only region 1 has one. -/
abbrev adm (c : Dev nD) : (p : Fin 4) → (pcfgs (F := F) p).Adm := fun
  | ⟨0, _⟩ => cfg0.toPCfg_adm
  | ⟨1, _⟩ => ⟨tab c, tab_ok c⟩
  | ⟨2, _⟩ => cfg2.toPCfg_adm
  | ⟨3, _⟩ => cfg3.toPCfg_adm
  | ⟨_ + 4, h⟩ => absurd h (Nat.not_lt.2 (Nat.le_add_left _ _))

variable (m : (ℓ : Loc nD τ sig) → Buf (Elt F) ℓ)

/-- Device `d`'s share of `x` as the all-gather reads it. -/
def X (d : Dev nD) : S1024x4096.Idx → Elt F .bf16 := V1 m d main_v1
/-- What the first two regions' valuation is before anything after the all-gather is known. -/
def o2 : Outs (F := F) := fun _ r c => Function.update (V1 m c) main_v2 (ag (X m) c : AgC F) r
/-- The gathered array, the weight and the product's blocks, as region 1 reads them. -/
def xblk (c : Dev nD) (t : Fin 8) : S1x512x4096.Idx → Elt F .bf16 :=
  (((cfg1 (F := F) ⟨tab c, tab_ok c⟩).win 0).blk t).view.read (Elt F) (V14 m (o2 m) c main_v2)
def wblk (c : Dev nD) (t : Fin 8) : S4096x2048.Idx → Elt F .bf16 :=
  (((cfg1 (F := F) ⟨tab c, tab_ok c⟩).win 1).blk t).view.read (Elt F) (V14 m (o2 m) c main_v30)
def yblk (c : Dev nD) (t : Fin 8) : S512x2048.Idx → Elt F .f32 := k1_pay1 (xblk m c t) (wblk m c t)
/-- The running maximum after `n` blocks. -/
def am (c : Dev nD) : ℕ → Elt F .f32
  | 0 => Scalar.ofBits .f32 0x00000000#32
  | n + 1 => if h : n < 8 then k1_pay2 (base1 (grid1.coords ⟨n, h⟩) (am c n)) (yblk m c ⟨n, h⟩) else am c n
/-- Device `c`'s own maximum. -/
def A (c : Dev nD) : Elt F .f32 := am m c 8
/-- The maximum over all devices, as region 2 leaves it on device `c`. -/
def G (c : Dev nD) : Elt F .f32 := k2_pay1 (cm (A m) c)

end Cert.Ring

end

end
-- ==== Proof.Data.lean ====
module

public import proofs.«01_k».proof.Proof.Values

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔻at" => Dat τ (Elt F) Unit ℕ UU ℕ

/-- The scoped buffers a region does not stage. -/
abbrev spare {n r : ℕ} (spec : Fin n → Pipeline.WinSpec sig r) (c : Dev nD) : sProp 𝕄 :=
  Pipeline.scopedRest (Ix := Unit) (Name := ℕ) (U := UU) (Lvl := ℕ) (Val := Elt F) spec c

variable (m : (ℓ : Loc nD τ sig) → Buf (Elt F) ℓ)

/-- What enters region 0's invariant beside the spare buffers. -/
def enter0 (c : Dev nD) : sProp 𝕄 :=
  iprop(∃ K, recs (X m) (A m) K ∗ levAts L lv ∗ atPos ER (bcell c bar0) 0 ∅ 0 ∗ twelve (at0 c) ∗ toks0 c ∗ creds0 c)
/-- What enters region 2's. -/
def enter2 (c : Dev nD) : sProp 𝕄 :=
  iprop(∃ K, recs (X m) (A m) K ∗ levAts L lv ∗ atPos ER (bcell c bar1) 0 ∅ 0 ∗ six (at0 c) ∗ toks2 c ∗ creds2 c)

/-- Region 0, the all-gather: the whole of `x` in, the gathered array out. -/
def dat0 (c : Dev nD) : 𝔻at cfg0 c where
  A := fun
    | ⟨0, _⟩ => V1 m c main_v1
    | ⟨1, _⟩ => V1 m c main_v2
    | ⟨_ + 2, h⟩ => absurd h (Nat.not_lt.2 (Nat.le_add_left _ _))
  after := fun
    | ⟨0, _⟩ => fun _ => X m c
    | ⟨1, _⟩ => fun _ => (ag (X m) c : AgC F)
    | ⟨_ + 2, h⟩ => absurd h (Nat.not_lt.2 (Nat.le_add_left _ _))
  Φ t := if t.val = 0 then iprop(enter0 m c ∗ spare spec0 c)
    else iprop(semVal (bcell c bar0) 0 ∗ twelve (fun q => semVal (dcell c q) 0) ∗ spare spec0 c)
  q _ := fullShare
  owed t := if t.val = 0 then tal (dues0 c) else tal (dues2 c)

/-- Region 1, the blocked product and its running maximum. -/
def dat1 (c : Dev nD) : 𝔻at (cfg1 (F := F) ⟨tab c, tab_ok c⟩) c where
  A := fun
    | ⟨0, _⟩ => V14 m (o2 m) c main_v2
    | ⟨1, _⟩ => V14 m (o2 m) c main_v30
    | ⟨2, _⟩ => V14 m (o2 m) c main_v31_0
    | ⟨3, _⟩ => V14 m (o2 m) c main_v31_1
    | ⟨_ + 4, h⟩ => absurd h (Nat.not_lt.2 (Nat.le_add_left _ _))
  after := fun
    | ⟨0, _⟩ => fun t => xblk m c t
    | ⟨1, _⟩ => fun t => wblk m c t
    | ⟨2, _⟩ => fun t => yblk m c t
    | ⟨3, _⟩ => fun t => fun _ => am m c (t.val + 1)
    | ⟨_ + 4, h⟩ => absurd h (Nat.not_lt.2 (Nat.le_add_left _ _))
  Φ _ := iprop(Pipeline.prefHeld (Ix := Unit) (Name := ℕ) (U := UU) (Lvl := ℕ) (Val := Elt F) pre1 c (fun _ => fullShare) (tab c) ∗ spare spec1 c)
  q _ := fullShare
  owed _ := tal (dues2 c)

/-- The product as region 1 leaves it, and its maximum's cell. -/
def Y (c : Dev nD) : S4096x2048.Idx → Elt F .f32 := (dat1 m c).arrAt 2 (cfg1 (F := F) ⟨tab c, tab_ok c⟩).N
def AC (c : Dev nD) : S1x1.Idx → Elt F .f32 := (dat1 m c).arrAt 3 (cfg1 (F := F) ⟨tab c, tab_ok c⟩).N

/-- Region 2, the maximum over the devices. -/
def dat2 (c : Dev nD) : 𝔻at cfg2 c where
  A := fun
    | ⟨0, _⟩ => AC m c
    | ⟨1, _⟩ => V14 m (o2 m) c main_v32
    | ⟨_ + 2, h⟩ => absurd h (Nat.not_lt.2 (Nat.le_add_left _ _))
  after := fun
    | ⟨0, _⟩ => fun _ => fun _ => A m c
    | ⟨1, _⟩ => fun _ => fun _ => G m c
    | ⟨_ + 2, h⟩ => absurd h (Nat.not_lt.2 (Nat.le_add_left _ _))
  Φ t := if t.val = 0 then iprop(enter2 m c ∗ spare spec2 c)
    else iprop(semVal (bcell c bar1) 0 ∗ six (fun q => semVal (dcell c q) 0) ∗ spare spec2 c)
  q _ := fullShare
  owed t := if t.val = 0 then tal (dues2 c) else tal []

/-- The maximum's cell as region 2 leaves it. -/
def GC (c : Dev nD) : S1x1.Idx → Elt F .f32 := (dat2 m c).arrAt 1 cfg2.N

/-- A block of the product, as the epilogue reads it. -/
def rblk (c : Dev nD) (t : Fin 8) : S512x2048.Idx → Elt F .f32 := ((cfg3.win 0).blk t).view.read (Elt F) (Y m c)
def gblk (c : Dev nD) (t : Fin 8) : S1x1.Idx → Elt F .f32 := ((cfg3.win 1).blk t).view.read (Elt F) (GC m c)

/-- Region 3, the quantising epilogue. -/
def dat3 (c : Dev nD) : 𝔻at cfg3 c where
  A := fun
    | ⟨0, _⟩ => Y m c
    | ⟨1, _⟩ => GC m c
    | ⟨2, _⟩ => V14 m (o2 m) c main_v33
    | ⟨_ + 3, h⟩ => absurd h (Nat.not_lt.2 (Nat.le_add_left _ _))
  after := fun
    | ⟨0, _⟩ => fun t => rblk m c t
    | ⟨1, _⟩ => fun t => gblk m c t
    | ⟨2, _⟩ => fun t => k3_pay1 (gblk m c t one11) (rblk m c t)
    | ⟨_ + 3, h⟩ => absurd h (Nat.not_lt.2 (Nat.le_add_left _ _))
  Φ _ := spare spec3 c
  q _ := fullShare
  owed _ := 0

/-- The result as region 3 leaves it. -/
def R (c : Dev nD) : S4096x2048.Idx → Elt F .f32 := (dat3 m c).arrAt 2 cfg3.N

/-- What the regions leave, by region and buffer. -/
def outs : Outs (F := F) := fun J => match J with
  | 2 => fun r c => Function.update (V1 m c) main_v2 (ag (X m) c : AgC F) r
  | 15 => fun r c => Function.update (Function.update (V14 m (o2 m) c) main_v31_0 (Y m c)) main_v31_1 (AC m c) r
  | 16 => fun r c => Function.update (V14 m (o2 m) c) main_v32 (GC m c) r
  | 17 => fun r c => Function.update (V14 m (o2 m) c) main_v33 (R m c) r
  | _ => fun r c => V1 m c r

def pdats : (p : Fin 4) → (c : Dev nD) → 𝔻at (Pipeline.pinD (pcfgs (F := F)) adm c p) c := fun
  | ⟨0, _⟩ => dat0 m
  | ⟨1, _⟩ => dat1 m
  | ⟨2, _⟩ => dat2 m
  | ⟨3, _⟩ => dat3 m
  | ⟨_ + 4, h⟩ => absurd h (Nat.not_lt.2 (Nat.le_add_left _ _))

theorem V14_outs (c : Dev nD) : V14 m (outs m) c = V14 m (o2 m) c := rfl

end Cert.Ring

end

end
-- ==== Proof.Oblig0.lean ====
module

public import proofs.«01_k».proof.Proof.Data
public import Idealize.ShloMosaic.Lib.Pipeline.ValueKit

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔻at" => Dat τ (Elt F) Unit ℕ UU ℕ

/-- What a core owes at a point, from its tallies and back. -/
theorem owes_in {cfg : Pipeline.Cfg sig Λ₀} {c : Dev nD} (dat : 𝔻at cfg c) (t : Fin (cfg.N + 1)) (l : List (GSem nD τ sig × ℕ))
    (h0 : dat.owed t = tal l) (hr : dat.recorded t = Set.univ) : (owed c l : sProp 𝕄) ⊢ (dat.owesAt () t : sProp 𝕄) := by
  unfold owed Dat.owesAt Pipeline.owesWithin Dat.bound
  rw [h0, hr]
  iintro ⟨%W, HO⟩
  iexists W
  isplitr
  · ipureintro; exact fun _ _ => Or.inl trivial
  iexact HO
theorem owes_out {cfg : Pipeline.Cfg sig Λ₀} {c : Dev nD} (dat : 𝔻at cfg c) (t : Fin (cfg.N + 1)) (l : List (GSem nD τ sig × ℕ))
    (h0 : dat.owed t = tal l) : (dat.owesAt () t : sProp 𝕄) ⊢ (owed c l : sProp 𝕄) := by
  unfold owed Dat.owesAt Pipeline.owesWithin
  rw [h0]
  iintro ⟨%W, -, HO⟩
  iexists W
  iexact HO

variable (m : (ℓ : Loc nD τ sig) → Buf (Elt F) ℓ)

theorem owed0_first (c : Dev nD) : (dat0 m c).owed t0_0.castSucc = tal (dues0 c) := by
  dsimp only [dat0]; exact if_pos rfl
theorem owed0_last (c : Dev nD) : (dat0 m c).owed (Fin.last _) = tal (dues2 c) := by
  dsimp only [dat0]; exact if_neg (show ¬ (Fin.last cfg0.N).val = 0 by decide)
theorem inv0_first (c : Dev nD) : (dat0 m c).Φ t0_0.castSucc = iprop(enter0 m c ∗ spare spec0 c) := by
  dsimp only [dat0]; exact if_pos rfl
theorem inv0_last (c : Dev nD) : (dat0 m c).Φ (Fin.last _)
    = iprop(semVal (bcell c bar0) 0 ∗ twelve (fun q => semVal (dcell c q) 0) ∗ spare spec0 c) := by
  dsimp only [dat0]; exact if_neg (show ¬ (Fin.last cfg0.N).val = 0 by decide)

/-- A whole buffer taken from its origin: each index is its own, so reading gives what it holds and every index is in it. -/
theorem emb_all (b : Ref sig .tc) (off : Fin b.ty.shape.rank → ℕ) (inb) (h0 : ∀ a, off a = 0) (j : b.ty.shape.Idx) :
    ((View.whole b).slice (Rect.unit off b.ty.shape.size inb)).emb j = j :=
  funext fun a => Fin.ext ((ValueKit.view_emb_slice_whole_unit_val b off b.ty.shape.size inb j a).trans (by rw [h0 a, Nat.zero_add]))
omit [FloatOps F] in
theorem read_all (b : Ref sig .tc) (off : Fin b.ty.shape.rank → ℕ) (inb) (h0 : ∀ a, off a = 0) (f : b.ty.shape.Idx → Elt F b.ty.elt) :
    ((View.whole b).slice (Rect.unit off b.ty.shape.size inb)).read (Elt F) f = f :=
  funext fun j => congrArg f (emb_all b off inb h0 j)
theorem mem_all (b : Ref sig .tc) (off : Fin b.ty.shape.rank → ℕ) (inb) (h0 : ∀ a, off a = 0) (i : b.ty.shape.Idx) :
    i ∈ ((View.whole b).slice (Rect.unit off b.ty.shape.size inb)).set := by
  have h := ((View.whole b).slice (Rect.unit off b.ty.shape.size inb)).emb_mem_set i
  rwa [emb_all b off inb h0 i] at h

theorem before0_0 (c : Dev nD) (d) : (dat0 m c).before 0 t0_0 d = X m c := by
  rw [(dat0 m c).before_fetched 0 t0_0 (fetch0_0 t0_0) d]
  refine Eq.trans (b := ((cfg0.win 0).blk t0_0).view.read (Elt F) (V1 m c main_v1)) rfl ?_
  exact read_all main_v1 (fun a => 0 * main_v1.ty.shape.size a) _ (fun a => Nat.zero_mul _) _

theorem after0_1 (c : Dev nD) (t : Fin cfg0.N) : (dat0 m c).after 1 t = (ag (X m) c : AgC F) := by dsimp only [dat0]
theorem flushed0_1 (c : Dev nD) (t : Fin cfg0.N) : (dat0 m c).flushed 1 t = (ag (X m) c : AgC F) := by
  refine funext fun y => ?_
  rw [Pipeline.Dat.flushed_apply, after0_1]
/-- Region 0 leaves every device's rows, in the order they arrive. -/
theorem gathered (c : Dev nD) : (dat0 m c).arrAt 1 cfg0.N = (ag (X m) c : AgC F) :=
  (dat0 m c).arrAt_eq_of_cover 1 (ag (X m) c : AgC F)
    (fun t _ => (flushed0_1 m c t).trans (read_all main_v2 (fun a => 0 * main_v2.ty.shape.size a) _ (fun a => Nat.zero_mul _) _).symm)
    (fun i => ⟨t0_0, flush0_1 t0_0, mem_all main_v2 (fun a => 0 * main_v2.ty.shape.size a) _ (fun a => Nat.zero_mul _) i⟩)

/-- Region 0's body at its one point. -/
theorem oblig0 (c : Dev nD) : BodyObligation (dat0 m c) defs₀ 𝒱₀ () Set.univ := fun t => by
  obtain rfl := fin_N0 t
  rw [bigSep_W0, bigSep_W0, inv0_first, show (dat0 m c).Φ t0_0.succ = _ from inv0_last m c]
  dsimp only
  simp only [before0_0]
  unfold enter0
  iintro ⟨⟨⟨%K, Hr, Hl, Hb, Ht, Hk, Hc⟩, Hs⟩, HO, ⟨%d0, H0⟩, ⟨%d1, H1⟩⟩
  ihave H0 := (owns_whole_elim c cc0_stg0_0 fullShare (X m c)) $$ H0
  ihave H1 := (owns_whole_elim c cc0_stg1_0 fullShare ((dat0 m c).before 1 t0_0 d1)) $$ H1
  ihave HO := (owes_out (dat0 m c) _ _ (owed0_first m c)) $$ HO
  iapply (run0 (X m) (A m) K c ((dat0 m c).before 1 t0_0 d1) _) $$ [Hr Hl Hb Ht Hk Hc H0 H1 HO]
  · unfold pre0
    isplitl [Hr]; · iexact Hr
    isplitl [Hl]; · iexact Hl
    isplitl [Hb]; · iexact Hb
    isplitl [Ht]; · iexact Ht
    isplitl [Hk]; · iexact Hk
    isplitl [Hc]; · iexact Hc
    isplitl [H0]; · iexact H0
    isplitl [H1]; · iexact H1
    iexact HO
  unfold post0
  iintro ⟨Hb, Ht, H0, H1, HO⟩
  isplitl [Hb Ht Hs]
  · isplitl [Hb]; · iexact Hb
    isplitl [Ht]; · iexact Ht
    iexact Hs
  isplitl [HO]
  · iapply (owes_in (dat0 m c) t0_0.succ _ (owed0_last m c) rfl); iexact HO
  isplitl [H0]
  · iapply (owns_whole_intro c cc0_stg0_0 fullShare (X m c)) $$ H0
  · iapply (owns_whole_intro c cc0_stg1_0 fullShare (ag (X m) c : AgC F)) $$ H1

end Cert.Ring

end

end
-- ==== Proof.Oblig1.lean ====
module

public import proofs.«01_k».proof.Proof.Oblig0

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔻at" => Dat τ (Elt F) Unit ℕ UU ℕ

variable (m : (ℓ : Loc nD τ sig) → Buf (Elt F) ℓ)

/-- The window of the product is written back at every point, that of the maximum after the last. -/
theorem flush1_2 (c : Dev nD) (t : Fin (cfg1 (F := F) ⟨tab c, tab_ok c⟩).N) : ((cfg1 (F := F) ⟨tab c, tab_ok c⟩).win 2).flush t = true :=
  (Pipeline.Window.flush_reads ((cfg1 (F := F) ⟨tab c, tab_ok c⟩).win 2) rfl (0 : Fin grid1.rank) (show 1 < grid1.bound 0 by decide)
    (show grid1.fixedAfter reads1_2 0 = true by decide) (Pipeline.Window.sep_of_coord cc1_transform_2 0 0 (fun _ => rfl) (by decide)) (P := 1) (m := 0) (show grid1.stride 0 = 1 by decide) rfl t).mpr (Nat.mod_one _)
theorem flush1_3 (c : Dev nD) (t : Fin (cfg1 (F := F) ⟨tab c, tab_ok c⟩).N) : ((cfg1 (F := F) ⟨tab c, tab_ok c⟩).win 3).flush t = true ↔ t.val % 8 = 7 :=
  Pipeline.Window.flush_const ((cfg1 (F := F) ⟨tab c, tab_ok c⟩).win 3) rfl (fun _ _ => rfl) (n := 8) (m := 7) (show grid1.N = 8 by decide) rfl t

theorem keep1_0 (c : Dev nD) (t : Fin (cfg1 (F := F) ⟨tab c, tab_ok c⟩).N) :
    ((cfg1 (F := F) ⟨tab c, tab_ok c⟩).win 0).cut ((cfg1 (F := F) ⟨tab c, tab_ok c⟩).grid.coords t) ((dat1 m c).after 0 t) = (dat1 m c).blockOf 0 t := by
  unfold Dat.blockOf
  dsimp only [dat1, xblk]
  rfl
theorem fetched1_0 (c : Dev nD) (t : Fin (cfg1 (F := F) ⟨tab c, tab_ok c⟩).N) (d) : (dat1 m c).fetched 0 t d = xblk m c t := by
  unfold Dat.fetched Dat.blockOf
  dsimp only [dat1, xblk]
  rfl
theorem before1_0 (c : Dev nD) (t : Fin (cfg1 (F := F) ⟨tab c, tab_ok c⟩).N) (d) : (dat1 m c).before 0 t d = xblk m c t :=
  ((dat1 m c).before_in_eq_fetched 0 rfl (fun _ => rfl) (fun _ _ _ => rfl) (keep1_0 m c) t d).trans (fetched1_0 m c t d)
theorem keep1_1 (c : Dev nD) (t : Fin (cfg1 (F := F) ⟨tab c, tab_ok c⟩).N) :
    ((cfg1 (F := F) ⟨tab c, tab_ok c⟩).win 1).cut ((cfg1 (F := F) ⟨tab c, tab_ok c⟩).grid.coords t) ((dat1 m c).after 1 t) = (dat1 m c).blockOf 1 t := by
  unfold Dat.blockOf
  dsimp only [dat1, wblk]
  rfl
theorem fetched1_1 (c : Dev nD) (t : Fin (cfg1 (F := F) ⟨tab c, tab_ok c⟩).N) (d) : (dat1 m c).fetched 1 t d = wblk m c t := by
  unfold Dat.fetched Dat.blockOf
  dsimp only [dat1, wblk]
  rfl
theorem before1_1 (c : Dev nD) (t : Fin (cfg1 (F := F) ⟨tab c, tab_ok c⟩).N) (d) : (dat1 m c).before 1 t d = wblk m c t :=
  ((dat1 m c).before_in_eq_fetched 1 rfl (fun _ => rfl) (fun _ _ _ => rfl) (keep1_1 m c) t d).trans (fetched1_1 m c t d)
/-- From the second block on, the maximum's cell holds the running maximum. -/
theorem before1_3 (c : Dev nD) (t : Fin (cfg1 (F := F) ⟨tab c, tab_ok c⟩).N) (ht : t.val ≠ 0) (d) : (dat1 m c).before 3 t d = fun _ => am m c t.val := by
  have h8 : t.val < 8 := t.isLt
  rw [(dat1 m c).before_out_kept 3 rfl t ht (Bool.eq_false_iff.mpr fun h => by
    have h7 := (flush1_3 c _).mp h
    dsimp only at h7
    omega) (fun _ => rfl) (fun _ _ => rfl) d]
  refine Eq.trans (b := fun _ => am m c (t.val - 1 + 1)) rfl ?_
  rw [Nat.sub_add_cancel (Nat.one_le_iff_ne_zero.mpr ht)]

theorem coords1 (t : Fin 8) : ((grid1.coords t) 0).val = t.val := by revert t; decide +kernel

/-- One step of the running maximum. -/
theorem am_step (c : Dev nD) (t : Fin 8) (a : Elt F .f32) (h : t.val ≠ 0 → a = am m c t.val) :
    k1_pay2 (base1 (grid1.coords t) a) (yblk m c t) = am m c (t.val + 1) := by
  rw [am, dif_pos t.isLt]
  congr 1
  by_cases h0 : t.val = 0
  · exact (if_pos ((coords1 t).trans h0)).trans (if_pos ((coords1 t).trans h0)).symm
  · exact (if_neg fun e => h0 ((coords1 t).symm.trans e)).trans ((h h0).trans (if_neg fun e => h0 ((coords1 t).symm.trans e)).symm)

theorem after1_0 (c : Dev nD) (t : Fin (cfg1 (F := F) ⟨tab c, tab_ok c⟩).N) : (dat1 m c).after 0 t = xblk m c t := by dsimp only [dat1]; rfl
theorem after1_1 (c : Dev nD) (t : Fin (cfg1 (F := F) ⟨tab c, tab_ok c⟩).N) : (dat1 m c).after 1 t = wblk m c t := by dsimp only [dat1]; rfl
theorem after1_2 (c : Dev nD) (t : Fin (cfg1 (F := F) ⟨tab c, tab_ok c⟩).N) : (dat1 m c).after 2 t = yblk m c t := by dsimp only [dat1]; rfl
theorem after1_3 (c : Dev nD) (t : Fin (cfg1 (F := F) ⟨tab c, tab_ok c⟩).N) : (dat1 m c).after 3 t = fun _ => am m c (t.val + 1) := by dsimp only [dat1]; rfl
theorem still1 (c : Dev nD) (t : Fin (cfg1 (F := F) ⟨tab c, tab_ok c⟩).N) : (dat1 m c).Φ t.succ = (dat1 m c).Φ t.castSucc := by dsimp only [dat1]
theorem same1 (c : Dev nD) (t : Fin (cfg1 (F := F) ⟨tab c, tab_ok c⟩).N) : (dat1 m c).owesAt () t.succ = ((dat1 m c).owesAt () t.castSucc : sProp 𝕄) := by unfold Dat.owesAt Pipeline.owesWithin Dat.bound; dsimp only [dat1]
/-- Region 1's body at every point. -/
theorem oblig1 (c : Dev nD) : BodyObligation (dat1 m c) defs₀ 𝒱₀ () Set.univ := fun t => by
  rw [bigSep_W1, bigSep_W1, still1, same1]
  dsimp only
  rw [after1_0, after1_1, after1_2, after1_3]
  iintro ⟨HΦ, HO, ⟨%d0, H0⟩, ⟨%d1, H1⟩, ⟨%d2, H2⟩, ⟨%d3, H3⟩⟩
  iapply (run1 c (grid1.coords t) (Memref.whole main_v29) (Memref.isWhole_whole _) _ (hstage1_0 _) _ (hstage1_1 _) _ (hstage1_2 _) _ (hstage1_3 _)
    ((dat1 m c).before 0 t d0) ((dat1 m c).before 1 t d1) ((dat1 m c).before 2 t d2) ((dat1 m c).before 3 t d3) _) $$ [H0 H1 H2 H3]
  · isplitl [H0]; · iexact H0
    isplitl [H1]; · iexact H1
    isplitl [H2]; · iexact H2
    iexact H3
  rw [before1_0 m c t d0, before1_1 m c t d1, show k1_pay1 (xblk m c t) (wblk m c t) = yblk m c t from rfl, am_step m c t _ (fun h => congrFun (before1_3 m c t h d3) one11)]
  iintro ⟨H0, H1, H2, H3⟩
  isplitl [HΦ]; · iexact HΦ
  isplitl [HO]; · iexact HO
  isplitl [H0]; · iexact H0
  isplitl [H1]; · iexact H1
  isplitl [H2]; · iexact H2
  iexact H3

theorem flushed1_3 (c : Dev nD) (a : Elt F .f32) (ha : am m c 8 = a) (t : Fin (cfg1 (F := F) ⟨tab c, tab_ok c⟩).N) (h7 : t.val % 8 = 7) :
    (dat1 m c).flushed 3 t = fun _ => a := by
  have h8 : t.val < 8 := t.isLt
  have e : t.val + 1 = 8 := by omega
  refine funext fun y => ?_
  rw [Pipeline.Dat.flushed_apply, after1_3, e, ha]
theorem one_idx (x y : S1x1.Idx) : x = y := funext fun a => by fin_cases a <;> exact Subsingleton.elim (α := Fin 1) _ _
theorem cover1_3 (c : Dev nD) (i : main_v31_1.ty.shape.Idx) :
    ∃ t : Fin (cfg1 (F := F) ⟨tab c, tab_ok c⟩).N, ((cfg1 (F := F) ⟨tab c, tab_ok c⟩).win 3).flush t = true ∧ i ∈ (((cfg1 (F := F) ⟨tab c, tab_ok c⟩).win 3).blk t).view.set := by
  have h7 : 7 < (cfg1 (F := F) ⟨tab c, tab_ok c⟩).N := show 7 < grid1.N by decide
  refine ⟨⟨7, h7⟩, (flush1_3 c ⟨7, h7⟩).mpr rfl, ?_⟩
  have h := (((cfg1 (F := F) ⟨tab c, tab_ok c⟩).win 3).blk ⟨7, h7⟩).view.emb_mem_set one11
  rwa [show (((cfg1 (F := F) ⟨tab c, tab_ok c⟩).win 3).blk ⟨7, h7⟩).view.emb one11 = i from one_idx _ _] at h
theorem AC_eq' (c : Dev nD) (a : Elt F .f32) (ha : am m c 8 = a) : AC m c = fun _ => a :=
  (dat1 m c).arrAt_eq_of_cover 3 (fun _ => a) (fun t ht => (flushed1_3 m c a ha t ((flush1_3 c t).mp ht)).trans rfl) (cover1_3 c)
/-- Region 1's cell of the maximum holds the running maximum after the last block. -/
theorem AC_eq (c : Dev nD) : AC m c = fun _ => A m c := AC_eq' m c _ rfl

end Cert.Ring

end

end
-- ==== Proof.Oblig2.lean ====
module

public import proofs.«01_k».proof.Proof.Oblig1

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔻at" => Dat τ (Elt F) Unit ℕ UU ℕ

variable (m : (ℓ : Loc nD τ sig) → Buf (Elt F) ℓ)

theorem owed2_first (c : Dev nD) : (dat2 m c).owed t2_0.castSucc = tal (dues2 c) := by
  dsimp only [dat2]; exact if_pos rfl
theorem owed2_last (c : Dev nD) : (dat2 m c).owed (Fin.last _) = tal [] := by
  dsimp only [dat2]; exact if_neg (show ¬ (Fin.last cfg2.N).val = 0 by decide)
theorem inv2_first (c : Dev nD) : (dat2 m c).Φ t2_0.castSucc = iprop(enter2 m c ∗ spare spec2 c) := by
  dsimp only [dat2]; exact if_pos rfl
theorem inv2_last (c : Dev nD) : (dat2 m c).Φ (Fin.last _)
    = iprop(semVal (bcell c bar1) 0 ∗ six (fun q => semVal (dcell c q) 0) ∗ spare spec2 c) := by
  dsimp only [dat2]; exact if_neg (show ¬ (Fin.last cfg2.N).val = 0 by decide)

theorem before2_0 (c : Dev nD) (d) : (dat2 m c).before 0 t2_0 d = fun _ => A m c := by
  rw [(dat2 m c).before_fetched 0 t2_0 (fetch2_0 t2_0) d]
  refine Eq.trans (b := ((cfg2.win 0).blk t2_0).view.read (Elt F) (AC m c)) rfl ?_
  exact (read_all main_v31_1 (fun a => 0 * main_v31_1.ty.shape.size a) _ (fun a => Nat.zero_mul _) _).trans (AC_eq m c)

theorem after2_1 (c : Dev nD) (t : Fin cfg2.N) : (dat2 m c).after 1 t = fun _ => G m c := by dsimp only [dat2]
theorem flushed2_1 (c : Dev nD) (a : Elt F .f32) (ha : G m c = a) (t : Fin cfg2.N) : (dat2 m c).flushed 1 t = fun _ => a := by
  refine funext fun y => ?_
  rw [Pipeline.Dat.flushed_apply, after2_1, ha]
theorem GC_eq' (c : Dev nD) (a : Elt F .f32) (ha : G m c = a) : GC m c = fun _ => a :=
  (dat2 m c).arrAt_eq_of_cover 1 (fun _ => a) (fun t _ => (flushed2_1 m c a ha t).trans rfl)
    (fun i => ⟨t2_0, flush2_1 t2_0, mem_all main_v32 (fun a => 0 * main_v32.ty.shape.size a) _ (fun a => Nat.zero_mul _) i⟩)
/-- Region 2 leaves the maximum over the devices. -/
theorem GC_eq (c : Dev nD) : GC m c = fun _ => G m c := GC_eq' m c _ rfl

/-- Among the spare buffers of region 2 is its scratch. -/
theorem spare2 (c : Dev nD) : (spare spec2 c : sProp 𝕄) ⊢ iprop(∃ f : Buf (Elt F) ((c : Thread nD τ).loc cc2_scratch0), ((c : Thread nD τ).loc cc2_scratch0 ↦{fullShare} f)
    ∗ (∀ g : Buf (Elt F) ((c : Thread nD τ).loc cc2_scratch0), ((c : Thread nD τ).loc cc2_scratch0 ↦{fullShare} g) -∗ spare spec2 c)) := by
  unfold spare
  rw [scopedRest2_eq]
  iintro ⟨H1, H2, H3, H4, H5, H6, H7, ⟨%f, H8⟩, H9⟩
  iexists f
  isplitl [H8]; · iexact H8
  iintro %g H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists g; iexact H8
  iexact H9

/-- Region 2's body at its one point. -/
theorem oblig2 (c : Dev nD) : BodyObligation (dat2 m c) defs₀ 𝒱₀ () Set.univ := fun t => by
  obtain rfl := fin_N2 t
  rw [bigSep_W2, bigSep_W2, inv2_first, show (dat2 m c).Φ t2_0.succ = _ from inv2_last m c]
  dsimp only
  rw [after2_1]
  simp only [before2_0]
  unfold enter2
  iintro ⟨⟨⟨%K, Hr, Hl, Hb, Ht, Hk, Hc⟩, Hs⟩, HO, ⟨%d0, H0⟩, ⟨%d1, H1⟩⟩
  ihave H0 := (owns_whole_elim c cc2_stg0_0 fullShare (fun _ => A m c)) $$ H0
  ihave H1 := (owns_whole_elim c cc2_stg1_0 fullShare ((dat2 m c).before 1 t2_0 d1)) $$ H1
  ihave HO := (owes_out (dat2 m c) _ _ (owed2_first m c)) $$ HO
  ihave Hs := (spare2 c) $$ Hs
  icases Hs with ⟨%f, Hf, Hs⟩
  iapply (run2 (X m) (A m) K c f ((dat2 m c).before 1 t2_0 d1) _) $$ [Hr Hl Hb Ht Hk Hc Hf H0 H1 HO]
  · unfold pre2
    isplitl [Hr]; · iexact Hr
    isplitl [Hl]; · iexact Hl
    isplitl [Hb]; · iexact Hb
    isplitl [Ht]; · iexact Ht
    isplitl [Hk]; · iexact Hk
    isplitl [Hc]; · iexact Hc
    isplitl [Hf]; · iexact Hf
    isplitl [H0]; · iexact H0
    isplitl [H1]; · iexact H1
    iexact HO
  unfold post2
  iintro ⟨Hb, Ht, Hf, H0, H1, HO⟩
  isplitl [Hb Ht Hs Hf]
  · isplitl [Hb]; · iexact Hb
    isplitl [Ht]; · iexact Ht
    iapply Hs; iexact Hf
  isplitl [HO]
  · iapply (owes_in (dat2 m c) t2_0.succ _ (owed2_last m c) rfl); iexact HO
  isplitl [H0]
  · iapply (owns_whole_intro c cc2_stg0_0 fullShare (fun _ => A m c)) $$ H0
  · iapply (Entails.of_eq (congrArg (fun g => owns c.tc (stage2_1 0) fullShare (fun _ => g)) (show k2_pay1 (cm (A m) c) = G m c from rfl)))
    iapply (owns_whole_intro c cc2_stg1_0 fullShare (fun _ => k2_pay1 (cm (A m) c))) $$ H1

end Cert.Ring

end

end
-- ==== Proof.Oblig3.lean ====
module

public import proofs.«01_k».proof.Proof.Oblig1

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔻at" => Dat τ (Elt F) Unit ℕ UU ℕ

variable (m : (ℓ : Loc nD τ sig) → Buf (Elt F) ℓ)

theorem keep3_0 (c : Dev nD) (t : Fin cfg3.N) :
    (cfg3.win 0).cut (cfg3.grid.coords t) ((dat3 m c).after 0 t) = (dat3 m c).blockOf 0 t := by
  unfold Dat.blockOf
  dsimp only [dat3, rblk]
theorem fetched3_0 (c : Dev nD) (t : Fin cfg3.N) (d) : (dat3 m c).fetched 0 t d = rblk m c t := by
  unfold Dat.fetched Dat.blockOf
  dsimp only [dat3, rblk]
  rfl
theorem before3_0 (c : Dev nD) (t : Fin cfg3.N) (d) : (dat3 m c).before 0 t d = rblk m c t :=
  ((dat3 m c).before_in_eq_fetched 0 rfl (fun _ => rfl) (fun _ _ _ => rfl) (keep3_0 m c) t d).trans (fetched3_0 m c t d)
theorem keep3_1 (c : Dev nD) (t : Fin cfg3.N) :
    (cfg3.win 1).cut (cfg3.grid.coords t) ((dat3 m c).after 1 t) = (dat3 m c).blockOf 1 t := by
  unfold Dat.blockOf
  dsimp only [dat3, gblk]
theorem fetched3_1 (c : Dev nD) (t : Fin cfg3.N) (d) : (dat3 m c).fetched 1 t d = gblk m c t := by
  unfold Dat.fetched Dat.blockOf
  dsimp only [dat3, gblk]
  rfl
theorem before3_1 (c : Dev nD) (t : Fin cfg3.N) (d) : (dat3 m c).before 1 t d = gblk m c t :=
  ((dat3 m c).before_in_eq_fetched 1 rfl (fun _ => rfl) (fun _ _ _ => rfl) (keep3_1 m c) t d).trans (fetched3_1 m c t d)

theorem after3_0 (c : Dev nD) (t : Fin cfg3.N) : (dat3 m c).after 0 t = rblk m c t := by dsimp only [dat3]
theorem after3_1 (c : Dev nD) (t : Fin cfg3.N) : (dat3 m c).after 1 t = gblk m c t := by dsimp only [dat3]
theorem after3_2 (c : Dev nD) (t : Fin cfg3.N) : (dat3 m c).after 2 t = k3_pay1 (gblk m c t one11) (rblk m c t) := by dsimp only [dat3]
theorem still3 (c : Dev nD) (t : Fin cfg3.N) : (dat3 m c).Φ t.succ = (dat3 m c).Φ t.castSucc := by dsimp only [dat3]
theorem same3 (c : Dev nD) (t : Fin cfg3.N) : (dat3 m c).owesAt () t.succ = ((dat3 m c).owesAt () t.castSucc : sProp 𝕄) := by unfold Dat.owesAt Pipeline.owesWithin Dat.bound; dsimp only [dat3]
/-- Region 3's body at every point. -/
theorem oblig3 (c : Dev nD) : BodyObligation (dat3 m c) defs₀ 𝒱₀ () Set.univ := fun t => by
  rw [bigSep_W3, bigSep_W3, still3, same3]
  dsimp only
  rw [after3_0, after3_1, after3_2]
  iintro ⟨HΦ, HO, ⟨%d0, H0⟩, ⟨%d1, H1⟩, ⟨%d2, H2⟩⟩
  iapply (run3 c (grid3.coords t) _ (hstage3_0 _) _ (hstage3_1 _) _ (hstage3_2 _)
    ((dat3 m c).before 0 t d0) ((dat3 m c).before 1 t d1) ((dat3 m c).before 2 t d2) _) $$ [H0 H1 H2]
  · isplitl [H0]; · iexact H0
    isplitl [H1]; · iexact H1
    iexact H2
  rw [before3_0 m c t d0, before3_1 m c t d1]
  iintro ⟨H0, H1, H2⟩
  isplitl [HΦ]; · iexact HΦ
  isplitl [HO]; · iexact HO
  isplitl [H0]; · iexact H0
  isplitl [H1]; · iexact H1
  iexact H2

end Cert.Ring

end

end
-- ==== Proof.Segs.lean ====
module

public import proofs.«01_k».proof.Proof.Oblig0
public import proofs.«01_k».proof.Proof.Oblig2
public import proofs.«01_k».proof.Proof.Oblig3
public import Idealize.ShloMosaic.Lib.Pipeline.RegionArraysT

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔻at" => Dat τ (Elt F) Unit ℕ UU ℕ

attribute [local irreducible] StableHlo.after

variable (m : (ℓ : Loc nD τ sig) → Buf (Elt F) ℓ)

/-! ## What the regions leave -/

theorem out2 (c : Dev nD) : outs m 2 main_v2 c = (ag (X m) c : AgC F) := by dsimp only [outs]; exact Function.update_self _ _ _
theorem out15_0 (c : Dev nD) : outs m 15 main_v31_0 c = Y m c := by
  dsimp only [outs]
  exact (Function.update_of_ne (a := (Proc.devRef .tc main_v31_0 : DevRef τ sig)) (by decide) _ _).trans (Function.update_self _ _ _)
theorem out15_1 (c : Dev nD) : outs m 15 main_v31_1 c = AC m c := by dsimp only [outs]; exact Function.update_self _ _ _
theorem out16 (c : Dev nD) : outs m 16 main_v32 c = GC m c := by dsimp only [outs]; exact Function.update_self _ _ _
theorem out17 (c : Dev nD) : outs m 17 main_v33 c = R m c := by dsimp only [outs]; exact Function.update_self _ _ _

/-! ## The windows' arrays among the buffers held -/

/-- Region `p`'s arrays at contents `G`, as buffers held at any valuation that has them there. -/
theorem arrays_at (p : Fin 4) (c : Dev nD) (kit : Pipeline.PLaunchFacts (nD := nD) (τ := τ) (pcfgs (F := F)) p)
    (hshare : ∀ w, (pdats m p c).share w = fullShare)
    (Gs : (w : Fin (pcfgs (F := F) p).W) → Buf (Elt F) (((pcfgs (F := F) p).spec w).arr.view.loc (c.tc : Thread nD τ))) (Wc : Valuation τ sig (Elt F))
    (hG : ∀ w, Gs w = Wc (Proc.devRef .tc (Pipeline.arrRef (pcfgs (F := F) p).spec w))) :
    ((pdats m p c).arrays Gs : sProp 𝕄) = StableHlo.held (c.tc : Thread nD τ) (Pipeline.arrRefs (pcfgs (F := F) p).spec) Wc := by
  refine (Pipeline.PerCore.arrays_eq (Pipeline.pinD (pcfgs (F := F)) adm) (pdats m) p c kit.arr_whole hshare Gs).trans ?_
  unfold StableHlo.held Pipeline.arrRefs
  rw [bigSep_map, show Finset.univ.image (Pipeline.arrRef (pcfgs (F := F) p).spec) = Finset.univ.map ⟨Pipeline.arrRef (pcfgs (F := F) p).spec, kit.win.arr_inj⟩ from
    (Finset.map_eq_image ⟨Pipeline.arrRef (pcfgs (F := F) p).spec, kit.win.arr_inj⟩ Finset.univ).symm, bigSep_map]
  exact bigSep_congr fun w _ => by rw [hG]; rfl

/-- The buffers held on a device beside region `p`'s arrays. -/
abbrev rest (p : Fin 4) (c : Dev nD) (V : Valuation τ sig (Elt F)) : sProp 𝕄 :=
  StableHlo.held (c : Thread nD τ) (Pipeline.ucRefs τ sig \ Pipeline.arrRefs (pcfgs (F := F) p).spec) V
/-- All a device's buffers. -/
abbrev all (c : Dev nD) (V : Valuation τ sig (Elt F)) : sProp 𝕄 := StableHlo.held (c : Thread nD τ) (Pipeline.ucRefs τ sig) V

theorem split_at (p : Fin 4) (c : Dev nD) (kit : Pipeline.PLaunchFacts (nD := nD) (τ := τ) (pcfgs (F := F)) p) (V : Valuation τ sig (Elt F)) :
    (all c V : sProp 𝕄) = iprop(StableHlo.held (c : Thread nD τ) (Pipeline.arrRefs (pcfgs (F := F) p).spec) V ∗ rest p c V) :=
  StableHlo.held_sub_split (c : Thread nD τ) (Pipeline.arrRefs_sub_ucRefs _ kit.win.arr_unscoped) V

/-- The array behind a window is not among the rest. -/
theorem not_rest (p : Fin 4) (w : Fin (pcfgs (F := F) p).W) (b : DevRef τ sig)
    (hb : b ∈ Pipeline.ucRefs τ sig \ Pipeline.arrRefs (pcfgs (F := F) p).spec) : b ≠ Proc.devRef .tc (Pipeline.arrRef (pcfgs (F := F) p).spec w) := fun h =>
  (Finset.mem_sdiff.mp hb).2 (h ▸ Finset.mem_map.mpr ⟨_, Finset.mem_image.mpr ⟨w, Finset.mem_univ _, rfl⟩, rfl⟩)

section Places

variable (o : Outs (F := F))
theorem at2 (c : Dev nD) : V2 m o c (Proc.devRef .tc main_v2) = o 2 main_v2 c := Function.update_self _ _ _
theorem at15_1 (c : Dev nD) : V15 m o c (Proc.devRef .tc main_v31_1) = o 15 main_v31_1 c := Function.update_self _ _ _
theorem at15_0 (c : Dev nD) : V15 m o c (Proc.devRef .tc main_v31_0) = o 15 main_v31_0 c :=
  (Function.update_of_ne (a := (Proc.devRef .tc main_v31_0 : DevRef τ sig)) (by decide) _ _).trans (Function.update_self _ _ _)
theorem at16 (c : Dev nD) : V16 m o c (Proc.devRef .tc main_v32) = o 16 main_v32 c := Function.update_self _ _ _
theorem at17 (c : Dev nD) : V17 m o c (Proc.devRef .tc main_v33) = o 17 main_v33 c := Function.update_self _ _ _

theorem same0 (c : Dev nD) : (rest 0 c (V2 m o c) : sProp 𝕄) = rest 0 c (V1 m c) :=
  StableHlo.held_congr _ fun b hb => Function.update_of_ne (not_rest (F := F) 0 1 b hb) _ _
theorem same1' (c : Dev nD) : (rest 1 c (V15 m o c) : sProp 𝕄) = rest 1 c (V14 m o c) :=
  StableHlo.held_congr _ fun b hb => (Function.update_of_ne (not_rest (F := F) 1 3 b hb) _ _).trans (Function.update_of_ne (not_rest (F := F) 1 2 b hb) _ _)
theorem same2 (c : Dev nD) : (rest 2 c (V16 m o c) : sProp 𝕄) = rest 2 c (V15 m o c) :=
  StableHlo.held_congr _ fun b hb => Function.update_of_ne (not_rest (F := F) 2 1 b hb) _ _
theorem same3' (c : Dev nD) : (rest 3 c (V17 m o c) : sProp 𝕄) = rest 3 c (V16 m o c) :=
  StableHlo.held_congr _ fun b hb => Function.update_of_ne (not_rest (F := F) 3 2 b hb) _ _

end Places

/-- The buffers the later regions read, between the regions. -/
theorem v14_v2 (c : Dev nD) (r : Ref sig .tc) : V14 m (o2 m) c (Proc.devRef .tc r) = V14 m (outs m) c (Proc.devRef .tc r) := congrFun (V14_outs m c).symm _
theorem v15_y (c : Dev nD) : Y m c = V15 m (outs m) c (Proc.devRef .tc main_v31_0) := ((at15_0 m (outs m) c).trans (out15_0 m c)).symm
theorem v15_a (c : Dev nD) : AC m c = V15 m (outs m) c (Proc.devRef .tc main_v31_1) := ((at15_1 m (outs m) c).trans (out15_1 m c)).symm
theorem v16_y (c : Dev nD) : Y m c = V16 m (outs m) c (Proc.devRef .tc main_v31_0) := (v15_y m c).trans (V16_of m (outs m) c main_v31_0 (by decide)).symm
theorem v16_a (c : Dev nD) : AC m c = V16 m (outs m) c (Proc.devRef .tc main_v31_1) := (v15_a m c).trans (V16_of m (outs m) c main_v31_1 (by decide)).symm
theorem v16_g (c : Dev nD) : GC m c = V16 m (outs m) c (Proc.devRef .tc main_v32) := ((at16 m (outs m) c).trans (out16 m c)).symm
theorem v17_y (c : Dev nD) : Y m c = V17 m (outs m) c (Proc.devRef .tc main_v31_0) := (v16_y m c).trans (V17_of m (outs m) c main_v31_0 (by decide)).symm
theorem v17_g (c : Dev nD) : GC m c = V17 m (outs m) c (Proc.devRef .tc main_v32) := (v16_g m c).trans (V17_of m (outs m) c main_v32 (by decide)).symm
theorem v17_r (c : Dev nD) : R m c = V17 m (outs m) c (Proc.devRef .tc main_v33) := ((at17 m (outs m) c).trans (out17 m c)).symm
theorem v15_32 (c : Dev nD) : V14 m (o2 m) c (Proc.devRef .tc main_v32) = V15 m (outs m) c (Proc.devRef .tc main_v32) :=
  (v14_v2 m c main_v32).trans (V15_of m (outs m) c main_v32 (by decide)).symm
theorem v16_33 (c : Dev nD) : V14 m (o2 m) c (Proc.devRef .tc main_v33) = V16 m (outs m) c (Proc.devRef .tc main_v33) :=
  ((v14_v2 m c main_v33).trans (V15_of m (outs m) c main_v33 (by decide)).symm).trans (V16_of m (outs m) c main_v33 (by decide)).symm

theorem in0 (c : Dev nD) (w : Fin (pcfgs (F := F) 0).W) : (pdats m 0 c).arrAt w 0 = V1 m c (Proc.devRef .tc (Pipeline.arrRef (pcfgs (F := F) 0).spec w)) := by
  match w with
  | ⟨0, _⟩ => rfl
  | ⟨1, _⟩ => rfl
theorem fin0 (c : Dev nD) (w : Fin (pcfgs (F := F) 0).W) : (pdats m 0 c).arrAt w cfg0.N = V2 m (outs m) c (Proc.devRef .tc (Pipeline.arrRef (pcfgs (F := F) 0).spec w)) := by
  match w with
  | ⟨0, _⟩ => exact ((dat0 m c).arrAt_in 0 rfl cfg0.N).trans (V2_of m (outs m) c main_v1 (by decide)).symm
  | ⟨1, _⟩ => exact (gathered m c).trans ((at2 m (outs m) c).trans (out2 m c)).symm
theorem in1 (c : Dev nD) (w : Fin (pcfgs (F := F) 1).W) : (pdats m 1 c).arrAt w 0 = V14 m (outs m) c (Proc.devRef .tc (Pipeline.arrRef (pcfgs (F := F) 1).spec w)) := by
  match w with
  | ⟨0, _⟩ => exact v14_v2 m c main_v2
  | ⟨1, _⟩ => exact v14_v2 m c main_v30
  | ⟨2, _⟩ => exact v14_v2 m c main_v31_0
  | ⟨3, _⟩ => exact v14_v2 m c main_v31_1
theorem fin1 (c : Dev nD) (w : Fin (pcfgs (F := F) 1).W) : (pdats m 1 c).arrAt w (cfg1 (F := F) ⟨tab c, tab_ok c⟩).N = V15 m (outs m) c (Proc.devRef .tc (Pipeline.arrRef (pcfgs (F := F) 1).spec w)) := by
  match w with
  | ⟨0, _⟩ => exact ((dat1 m c).arrAt_in 0 rfl _).trans ((v14_v2 m c main_v2).trans (V15_of m (outs m) c main_v2 (by decide)).symm)
  | ⟨1, _⟩ => exact ((dat1 m c).arrAt_in 1 rfl _).trans ((v14_v2 m c main_v30).trans (V15_of m (outs m) c main_v30 (by decide)).symm)
  | ⟨2, _⟩ => exact v15_y m c
  | ⟨3, _⟩ => exact v15_a m c
theorem in2 (c : Dev nD) (w : Fin (pcfgs (F := F) 2).W) : (pdats m 2 c).arrAt w 0 = V15 m (outs m) c (Proc.devRef .tc (Pipeline.arrRef (pcfgs (F := F) 2).spec w)) := by
  match w with
  | ⟨0, _⟩ => exact v15_a m c
  | ⟨1, _⟩ => exact v15_32 m c
theorem fin2 (c : Dev nD) (w : Fin (pcfgs (F := F) 2).W) : (pdats m 2 c).arrAt w cfg2.N = V16 m (outs m) c (Proc.devRef .tc (Pipeline.arrRef (pcfgs (F := F) 2).spec w)) := by
  match w with
  | ⟨0, _⟩ => exact ((dat2 m c).arrAt_in 0 rfl _).trans (v16_a m c)
  | ⟨1, _⟩ => exact v16_g m c
attribute [local irreducible] Y GC in
theorem in3 (c : Dev nD) (w : Fin (pcfgs (F := F) 3).W) : (pdats m 3 c).arrAt w 0 = V16 m (outs m) c (Proc.devRef .tc (Pipeline.arrRef (pcfgs (F := F) 3).spec w)) := by
  match w with
  | ⟨0, _⟩ => exact v16_y m c
  | ⟨1, _⟩ => exact v16_g m c
  | ⟨2, _⟩ => exact v16_33 m c
attribute [local irreducible] Y GC in
theorem fin3 (c : Dev nD) (w : Fin (pcfgs (F := F) 3).W) : (pdats m 3 c).arrAt w cfg3.N = V17 m (outs m) c (Proc.devRef .tc (Pipeline.arrRef (pcfgs (F := F) 3).spec w)) := by
  match w with
  | ⟨0, _⟩ => exact ((dat3 m c).arrAt_in 0 rfl _).trans (v17_y m c)
  | ⟨1, _⟩ => exact ((dat3 m c).arrAt_in 1 rfl _).trans (v17_g m c)
  | ⟨2, _⟩ => exact v17_r m c

theorem share0 (c : Dev nD) (w : Fin (pcfgs (F := F) 0).W) : (pdats m 0 c).share w = fullShare := by
  match w with
  | ⟨0, _⟩ => rfl
  | ⟨1, _⟩ => rfl
theorem share1 (c : Dev nD) (w : Fin (pcfgs (F := F) 1).W) : (pdats m 1 c).share w = fullShare := by
  match w with
  | ⟨0, _⟩ => rfl
  | ⟨1, _⟩ => rfl
  | ⟨2, _⟩ => rfl
  | ⟨3, _⟩ => rfl
theorem share2 (c : Dev nD) (w : Fin (pcfgs (F := F) 2).W) : (pdats m 2 c).share w = fullShare := by
  match w with
  | ⟨0, _⟩ => rfl
  | ⟨1, _⟩ => rfl
theorem share3 (c : Dev nD) (w : Fin (pcfgs (F := F) 3).W) : (pdats m 3 c).share w = fullShare := by
  match w with
  | ⟨0, _⟩ => rfl
  | ⟨1, _⟩ => rfl
  | ⟨2, _⟩ => rfl

/-- The whole of a device's buffers before and after a region, sorted into the region's arrays and the rest. -/
theorem enterA0 (c : Dev nD) : (all c (V1 m c) : sProp 𝕄) = iprop((pdats m 0 c).arrays ((pdats m 0 c).arrAt · 0) ∗ rest 0 c (V1 m c)) := by
  rw [split_at 0 c launch0, arrays_at m 0 c launch0 (share0 m c) _ _ (in0 m c)]
theorem leaveA0 (c : Dev nD) : (all c (V2 m (outs m) c) : sProp 𝕄) = iprop((pdats m 0 c).arrays ((pdats m 0 c).arrAt · cfg0.N) ∗ rest 0 c (V1 m c)) := by
  rw [split_at 0 c launch0, arrays_at m 0 c launch0 (share0 m c) _ _ (fin0 m c), same0]
theorem enterA1 (c : Dev nD) : (all c (V14 m (outs m) c) : sProp 𝕄) = iprop((pdats m 1 c).arrays ((pdats m 1 c).arrAt · 0) ∗ rest 1 c (V14 m (outs m) c)) := by
  rw [split_at 1 c launch1, arrays_at m 1 c launch1 (share1 m c) _ _ (in1 m c)]
theorem leaveA1 (c : Dev nD) : (all c (V15 m (outs m) c) : sProp 𝕄) = iprop((pdats m 1 c).arrays ((pdats m 1 c).arrAt · (cfg1 (F := F) ⟨tab c, tab_ok c⟩).N) ∗ rest 1 c (V14 m (outs m) c)) := by
  rw [split_at 1 c launch1, arrays_at m 1 c launch1 (share1 m c) _ _ (fin1 m c), same1']
theorem enterA2 (c : Dev nD) : (all c (V15 m (outs m) c) : sProp 𝕄) = iprop((pdats m 2 c).arrays ((pdats m 2 c).arrAt · 0) ∗ rest 2 c (V15 m (outs m) c)) := by
  rw [split_at 2 c launch2, arrays_at m 2 c launch2 (share2 m c) _ _ (in2 m c)]
theorem leaveA2 (c : Dev nD) : (all c (V16 m (outs m) c) : sProp 𝕄) = iprop((pdats m 2 c).arrays ((pdats m 2 c).arrAt · cfg2.N) ∗ rest 2 c (V15 m (outs m) c)) := by
  rw [split_at 2 c launch2, arrays_at m 2 c launch2 (share2 m c) _ _ (fin2 m c), same2]
theorem enterA3 (c : Dev nD) : (all c (V16 m (outs m) c) : sProp 𝕄) = iprop((pdats m 3 c).arrays ((pdats m 3 c).arrAt · 0) ∗ rest 3 c (V16 m (outs m) c)) := by
  rw [split_at 3 c launch3, arrays_at m 3 c launch3 (share3 m c) _ _ (in3 m c)]
theorem leaveA3 (c : Dev nD) : (all c (V17 m (outs m) c) : sProp 𝕄) = iprop((pdats m 3 c).arrays ((pdats m 3 c).arrAt · cfg3.N) ∗ rest 3 c (V16 m (outs m) c)) := by
  rw [split_at 3 c launch3, arrays_at m 3 c launch3 (share3 m c) _ _ (fin3 m c), same3']

/-- The table of slots among the rest of region 1's buffers. -/
theorem table_at (c : Dev nD) : (rest 1 c (V14 m (outs m) c) : sProp 𝕄) = iprop(Pipeline.prefHeld (Ix := Unit) (Name := ℕ) (U := UU) (Lvl := ℕ) pre1 c (fun _ => fullShare) (tab (F := F) c)
    ∗ StableHlo.held (c : Thread nD τ) ((Pipeline.ucRefs τ sig \ Pipeline.arrRefs (pcfgs (F := F) 1).spec) \ Pipeline.tblRefs pre1) (V14 m (outs m) c)) := by
  unfold rest
  rw [StableHlo.held_sub_split (c : Thread nD τ) (Pipeline.tblRefs_sub_ucRefs_sdiff (pcfgs (F := F) 1).spec pre1 (launch1 (F := F)).pre.unscoped (launch1 (F := F)).pre.disj) (V14 m (outs m) c),
    Pipeline.prefHeld_held pre1 (launch1 (F := F)).pre.inj c (tab c) (V14 m (outs m) c) (fun k => by
      match k with
      | ⟨0, _⟩ => exact (table m (outs m) c).symm)]

end Cert.Ring

end

end
-- ==== Proof.Regs.lean ====
module

public import proofs.«01_k».proof.Proof.Segs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔻at" => Dat τ (Elt F) Unit ℕ UU ℕ

variable (m : (ℓ : Loc nD τ sig) → Buf (Elt F) ℓ)

/-! ## The kernels' own semaphores -/

/-- The semaphores of region 0's transfers, and of region 2's. -/
abbrev osem0 (k : Fin 12) : SemLoc sig := .dma (sem0 k)
abbrev osem2 (k : Fin 6) : SemLoc sig := .dma (sem2 k)
theorem own0 : Pipeline.OwnSemFacts spec0 osem0 := by decide
theorem own2 : Pipeline.OwnSemFacts spec2 osem2 := by decide

/-- Every staging semaphore is at level 0. -/
theorem stage0 : ∀ (w : Fin 2) (s : Fin (spec0 w).nbuf), lvl (.dma ((spec0 w).sem s)) = 0 := by decide
theorem stage1 : ∀ (w : Fin 4) (s : Fin (spec1 w).nbuf), lvl (.dma ((spec1 w).sem s)) = 0 := by decide
theorem stage2 : ∀ (w : Fin 2) (s : Fin (spec2 w).nbuf), lvl (.dma ((spec2 w).sem s)) = 0 := by decide

/-- A core that owes only what lies above level 0 may wait on a semaphore at that level. -/
theorem wait_low (c : Dev nD) (sm : SemLoc sig) (hs : lvl sm = 0) (l : List (GSem nD τ sig × ℕ)) (hl : above 0 l) :
    (levAts L lv : sProp 𝕄) ⊢ MayWait (c : Thread nD τ) sm () (tal l) := mayWait c sm l fun x hx => by rw [hs]; exact hl x hx

/-! ## What the devices hold between the regions -/

/-- What a device holds of region 0's exchange before it, and of region 2's. -/
def P0 (c : Dev nD) : sProp 𝕄 :=
  iprop(∃ K, recs (X m) (A m) K ∗ atPos ER (bcell c bar0) 0 ∅ 0 ∗ twelve (fun q => openTok ER (dcell c q)) ∗ toks0 c ∗ creds0 c)
def P2 (c : Dev nD) : sProp 𝕄 :=
  iprop(∃ K, recs (X m) (A m) K ∗ atPos ER (bcell c bar1) 0 ∅ 0 ∗ six (fun q => openTok ER (dcell c q)) ∗ toks2 c ∗ creds2 c)

/-- What rides beside the buffers: before region 0, between it and region 2, after region 2. -/
def E : Fin 5 → Dev nD → sProp 𝕄 := fun
  | ⟨0, _⟩ => fun c => iprop(P0 m c ∗ P2 m c ∗ owed c (dues0 c))
  | ⟨1, _⟩ => fun c => iprop(semVal (bcell c bar0) 0 ∗ P2 m c ∗ owed c (dues2 c))
  | ⟨2, _⟩ => fun c => iprop(semVal (bcell c bar0) 0 ∗ P2 m c ∗ owed c (dues2 c))
  | _ => fun c => iprop(semVal (bcell c bar0) 0 ∗ semVal (bcell c bar1) 0 ∗ owed c [])

/-- A family of dormant cells, their counters at zero in hand, is opened. -/
theorem open_all {n : ℕ} (Xs : Dev nD → S1024x4096.Idx → Elt F .bf16) (As : Dev nD → Elt F .f32) (K : GSem nD τ sig → ℕ) (c : Dev nD)
    (f : Fin n → DmaSem sig) (hf : ∀ k, isSc (f k).val = true) :
    iprop(recs Xs As K ∗ (bigSep Finset.univ fun k => openTok ER (dcell c (f k))) ∗ bigSep Finset.univ fun k => semVal (dcell c (f k)) 0)
      ⊢ (|={Set.univ}=> bigSep Finset.univ fun k => at0 c (f k) : sProp 𝕄) := by
  rw [← bigSep_sep']
  exact (BI.bigSep_with_persistent (Ψ := fun k => iprop(|={Set.univ}=> at0 c (f k))) fun k _ => open1 Xs As K c (f k) (hf k)).trans (bigSep_fupd Finset.univ _)
theorem open_twelve (Xs : Dev nD → S1024x4096.Idx → Elt F .bf16) (As : Dev nD → Elt F .f32) (K : GSem nD τ sig → ℕ) (c : Dev nD) :
    iprop(recs Xs As K ∗ twelve (fun q => openTok ER (dcell c q)) ∗ Pipeline.ownSems0 osem0 c) ⊢ (|={Set.univ}=> twelve (at0 c) : sProp 𝕄) :=
  open_all Xs As K c sem0 (by decide)
theorem open0 (c : Dev nD) : iprop(P0 m c ∗ Pipeline.ownSems0 osem0 c ∗ levAts L lv) ⊢ (|={Set.univ}=> enter0 m c : sProp 𝕄) := by
  unfold P0
  iintro ⟨⟨%K, #HR, Hb, Ho, Ht, Hc⟩, Hs, Hl⟩
  imod (open_twelve (X m) (A m) K c) $$ [Ho Hs] with Ha
  · isplitr; · iexact HR
    isplitl [Ho]; · iexact Ho
    iexact Hs
  imodintro
  unfold enter0
  iexists K
  isplitr; · iexact HR
  isplitl [Hl]; · iexact Hl
  isplitl [Hb]; · iexact Hb
  isplitl [Ha]; · iexact Ha
  isplitl [Ht]; · iexact Ht
  iexact Hc
theorem open_six (Xs : Dev nD → S1024x4096.Idx → Elt F .bf16) (As : Dev nD → Elt F .f32) (K : GSem nD τ sig → ℕ) (c : Dev nD) :
    iprop(recs Xs As K ∗ six (fun q => openTok ER (dcell c q)) ∗ Pipeline.ownSems0 osem2 c) ⊢ (|={Set.univ}=> six (at0 c) : sProp 𝕄) :=
  open_all Xs As K c sem2 (by decide)
theorem open2 (c : Dev nD) : iprop(P2 m c ∗ Pipeline.ownSems0 osem2 c ∗ levAts L lv) ⊢ (|={Set.univ}=> enter2 m c : sProp 𝕄) := by
  unfold P2
  iintro ⟨⟨%K, #HR, Hb, Ho, Ht, Hc⟩, Hs, Hl⟩
  imod (open_six (X m) (A m) K c) $$ [Ho Hs] with Ha
  · isplitr; · iexact HR
    isplitl [Ho]; · iexact Ho
    iexact Hs
  imodintro
  unfold enter2
  iexists K
  isplitr; · iexact HR
  isplitl [Hl]; · iexact Hl
  isplitl [Hb]; · iexact Hb
  isplitl [Ha]; · iexact Ha
  isplitl [Ht]; · iexact Ht
  iexact Hc

/-! ## The regions -/

local notation "Rec" => Pipeline.PerCore.RegionSeg (pcfgs (F := F)) adm (pdats m) () defs₀ 𝒱₀ L lv

/-- The all-gather. -/
def reg0 : Rec 0 where
  win := launch0.win.to₀
  block_pos := launch0.block_pos
  stage_whole := launch0.stage_whole
  K := Fin 12
  osem := osem0
  ho := own0
  hbody c := (oblig0 m c).loose
  hwaits c := Pipeline.PerCore.cellsWaits_intro (Pipeline.pinD (pcfgs (F := F)) adm) (pdats m) () 0 c fun w s t => by
    show levAts L lv ⊢ MayWait _ _ () (if t.val = 0 then tal (dues0 c) else tal (dues2 c))
    by_cases h : t.val = 0
    · rw [if_pos h]; exact wait_low c _ (stage0 w s) _ (above_d0 c)
    · rw [if_neg h]; exact wait_low c _ (stage0 w s) _ (above_mono (by decide) (above_d2 c))
  pre c := iprop(all c (V1 m c) ∗ E m 0 c)
  post c := iprop(all c (V2 m (outs m) c) ∗ E m 1 c)
  X c := enter0 m c
  Y c := semVal (bcell c bar0) 0
  Z c := iprop(rest 0 c (V1 m c) ∗ P2 m c)
  hentry c := by
    rw [enterA0, Pipeline.prefHeld_of_none (pcfgs (F := F) 0).pre rfl]
    show iprop((((pdats m 0 c).arrays ((pdats m 0 c).arrAt · 0) ∗ rest 0 c (V1 m c)) ∗ P0 m c ∗ P2 m c ∗ owed c (dues0 c)) ∗ Pipeline.ownSems0 osem0 c ∗ levAts L lv) ⊢ _
    iintro ⟨⟨⟨Ha, Hr⟩, HP, HQ, HO⟩, Hs, Hl⟩
    imod (open0 m c) $$ [HP Hs Hl] with HX
    · isplitl [HP]; · iexact HP
      isplitl [Hs]; · iexact Hs
      iexact Hl
    imodintro
    isplitl [Ha]; · iexact Ha
    isplitr; · iempintro
    isplitl [HO]; · iapply (owes_in (dat0 m c) t0_0.castSucc _ (owed0_first m c) rfl); iexact HO
    isplitl [HX]; · iexact HX
    isplitl [Hr]; · iexact Hr
    iexact HQ
  hin c := by
    rw [show (pdats m 0 c).Φ 0 = _ from inv0_first m c]
    iintro ⟨HX, -, Hs⟩
    isplitl [HX]; · iexact HX
    iexact Hs
  hout c := by
    rw [show (pdats m 0 c).Φ (Fin.last _) = _ from inv0_last m c]
    iintro ⟨HY, Hs, Hr⟩
    isplitl [HY]; · iexact HY
    isplitl [Hs]; · iapply (show twelve (fun q => semVal (dcell c q) 0) ⊢ Pipeline.ownSems0 osem0 c from .rfl); iexact Hs
    iexact Hr
  hexit c := by
    rw [leaveA0]
    iintro ⟨Ha, HO, HY, Hr, HQ⟩
    imodintro
    isplitl [Ha Hr]
    · isplitl [Ha]; · iexact Ha
      iexact Hr
    iapply (show iprop(semVal (bcell c bar0) 0 ∗ P2 m c ∗ owed c (dues2 c)) ⊢ E m 1 c from .rfl)
    isplitl [HY]; · iexact HY
    isplitl [HQ]; · iexact HQ
    iapply (owes_out (dat0 m c) _ _ (owed0_last m c)); iexact HO

/-- The blocked product. -/
def reg1 : Rec 1 where
  win := launch1.win.to₀
  block_pos := launch1.block_pos
  stage_whole := launch1.stage_whole
  K := PEmpty
  osem k := k.elim
  ho := Pipeline.OwnSemFacts.none _
  hbody c := (oblig1 m c).loose
  hwaits c := Pipeline.PerCore.cellsWaits_intro (Pipeline.pinD (pcfgs (F := F)) adm) (pdats m) () 1 c fun w s t =>
    wait_low c _ (stage1 w s) (dues2 c) (above_mono (by decide) (above_d2 c))
  pre c := iprop(all c (V14 m (outs m) c) ∗ E m 1 c)
  post c := iprop(all c (V15 m (outs m) c) ∗ E m 2 c)
  X c := iprop(emp)
  Y c := Pipeline.prefHeld (Ix := Unit) (Name := ℕ) (U := UU) (Lvl := ℕ) pre1 c (fun _ => fullShare) (tab (F := F) c)
  Z c := iprop(StableHlo.held (c : Thread nD τ) ((Pipeline.ucRefs τ sig \ Pipeline.arrRefs (pcfgs (F := F) 1).spec) \ Pipeline.tblRefs pre1) (V14 m (outs m) c)
    ∗ semVal (bcell c bar0) 0 ∗ P2 m c)
  hentry c := by
    rw [enterA1, table_at, Pipeline.ownSems0_none]
    show iprop((_ ∗ semVal (bcell c bar0) 0 ∗ P2 m c ∗ owed c (dues2 c)) ∗ _) ⊢ _
    iintro ⟨⟨⟨Ha, Hp, Hr⟩, HB, HQ, HO⟩, -, -⟩
    imodintro
    isplitl [Ha]; · iexact Ha
    isplitl [Hp]; · iexact Hp
    isplitl [HO]; · iapply (owes_in (dat1 m c) 0 (dues2 c) rfl rfl); iexact HO
    isplitr; · iempintro
    isplitl [Hr]; · iexact Hr
    isplitl [HB]; · iexact HB
    iexact HQ
  hin c := by
    show _ ⊢ iprop(Pipeline.prefHeld (Ix := Unit) (Name := ℕ) (U := UU) (Lvl := ℕ) pre1 c (fun _ => fullShare) (tab (F := F) c) ∗ spare spec1 c)
    iintro ⟨-, Hp, Hs⟩
    isplitl [Hp]; · iexact Hp
    iexact Hs
  hout c := by
    rw [Pipeline.ownSems0_none]
    show iprop(Pipeline.prefHeld (Ix := Unit) (Name := ℕ) (U := UU) (Lvl := ℕ) pre1 c (fun _ => fullShare) (tab (F := F) c) ∗ spare spec1 c) ⊢ _
    iintro ⟨Hp, Hs⟩
    isplitl [Hp]; · iexact Hp
    isplitr; · iempintro
    iexact Hs
  hexit c := by
    rw [leaveA1, table_at]
    iintro ⟨Ha, HO, Hp, Hr, HB, HQ⟩
    imodintro
    isplitl [Ha Hp Hr]
    · isplitl [Ha]; · iexact Ha
      isplitl [Hp]; · iexact Hp
      iexact Hr
    iapply (show iprop(semVal (bcell c bar0) 0 ∗ P2 m c ∗ owed c (dues2 c)) ⊢ E m 2 c from .rfl)
    isplitl [HB]; · iexact HB
    isplitl [HQ]; · iexact HQ
    iapply (owes_out (dat1 m c) (Fin.last _) (dues2 c) rfl); iexact HO

/-- The maximum over the devices. -/
def reg2 : Rec 2 where
  win := launch2.win.to₀
  block_pos := launch2.block_pos
  stage_whole := launch2.stage_whole
  K := Fin 6
  osem := osem2
  ho := own2
  hbody c := (oblig2 m c).loose
  hwaits c := Pipeline.PerCore.cellsWaits_intro (Pipeline.pinD (pcfgs (F := F)) adm) (pdats m) () 2 c fun w s t => by
    show levAts L lv ⊢ MayWait _ _ () (if t.val = 0 then tal (dues2 c) else tal [])
    by_cases h : t.val = 0
    · rw [if_pos h]; exact wait_low c _ (stage2 w s) _ (above_mono (by decide) (above_d2 c))
    · rw [if_neg h]; exact wait_low c _ (stage2 w s) _ (above_nil 0)
  pre c := iprop(all c (V15 m (outs m) c) ∗ E m 2 c)
  post c := iprop(all c (V16 m (outs m) c) ∗ E m 3 c)
  X c := enter2 m c
  Y c := semVal (bcell c bar1) 0
  Z c := iprop(rest 2 c (V15 m (outs m) c) ∗ semVal (bcell c bar0) 0)
  hentry c := by
    rw [enterA2, Pipeline.prefHeld_of_none (pcfgs (F := F) 2).pre rfl]
    show iprop((((pdats m 2 c).arrays ((pdats m 2 c).arrAt · 0) ∗ rest 2 c (V15 m (outs m) c)) ∗ semVal (bcell c bar0) 0 ∗ P2 m c ∗ owed c (dues2 c)) ∗ Pipeline.ownSems0 osem2 c ∗ levAts L lv) ⊢ _
    iintro ⟨⟨⟨Ha, Hr⟩, HB, HQ, HO⟩, Hs, Hl⟩
    imod (open2 m c) $$ [HQ Hs Hl] with HX
    · isplitl [HQ]; · iexact HQ
      isplitl [Hs]; · iexact Hs
      iexact Hl
    imodintro
    isplitl [Ha]; · iexact Ha
    isplitr; · iempintro
    isplitl [HO]; · iapply (owes_in (dat2 m c) t2_0.castSucc _ (owed2_first m c) rfl); iexact HO
    isplitl [HX]; · iexact HX
    isplitl [Hr]; · iexact Hr
    iexact HB
  hin c := by
    rw [show (pdats m 2 c).Φ 0 = _ from inv2_first m c]
    iintro ⟨HX, -, Hs⟩
    isplitl [HX]; · iexact HX
    iexact Hs
  hout c := by
    rw [show (pdats m 2 c).Φ (Fin.last _) = _ from inv2_last m c]
    iintro ⟨HY, Hs, Hr⟩
    isplitl [HY]; · iexact HY
    isplitl [Hs]; · iapply (show six (fun q => semVal (dcell c q) 0) ⊢ Pipeline.ownSems0 osem2 c from .rfl); iexact Hs
    iexact Hr
  hexit c := by
    rw [leaveA2]
    iintro ⟨Ha, HO, HY, Hr, HB⟩
    imodintro
    isplitl [Ha Hr]
    · isplitl [Ha]; · iexact Ha
      iexact Hr
    iapply (show iprop(semVal (bcell c bar0) 0 ∗ semVal (bcell c bar1) 0 ∗ owed c []) ⊢ E m 3 c from .rfl)
    isplitl [HB]; · iexact HB
    isplitl [HY]; · iexact HY
    iapply (owes_out (dat2 m c) _ _ (owed2_last m c)); iexact HO

/-- The quantising epilogue. -/
def reg3 : Rec 3 where
  win := launch3.win.to₀
  block_pos := launch3.block_pos
  stage_whole := launch3.stage_whole
  K := PEmpty
  osem k := k.elim
  ho := Pipeline.OwnSemFacts.none _
  hbody c := (oblig3 m c).loose
  hwaits c := Pipeline.PerCore.hwaits_of_owed_zero (pcfgs (F := F)) adm (pdats m) () L lv 3 (fun _ _ => rfl) c
  pre c := iprop(all c (V16 m (outs m) c) ∗ E m 3 c)
  post c := iprop(all c (V17 m (outs m) c) ∗ E m 4 c)
  X c := iprop(emp)
  Y c := iprop(emp)
  Z c := iprop(rest 3 c (V16 m (outs m) c) ∗ semVal (bcell c bar0) 0 ∗ semVal (bcell c bar1) 0)
  hentry c := by
    rw [enterA3, Pipeline.prefHeld_of_none (pcfgs (F := F) 3).pre rfl, Pipeline.ownSems0_none]
    show iprop((_ ∗ semVal (bcell c bar0) 0 ∗ semVal (bcell c bar1) 0 ∗ owed c []) ∗ _) ⊢ _
    iintro ⟨⟨⟨Ha, Hr⟩, HB, HC, HO⟩, -, -⟩
    imodintro
    isplitl [Ha]; · iexact Ha
    isplitr; · iempintro
    isplitl [HO]; · iapply (owes_in (dat3 m c) 0 [] rfl rfl); iexact HO
    isplitr; · iempintro
    isplitl [Hr]; · iexact Hr
    isplitl [HB]; · iexact HB
    iexact HC
  hin c := by
    show _ ⊢ spare spec3 c
    iintro ⟨-, -, Hs⟩
    iexact Hs
  hout c := by
    rw [Pipeline.ownSems0_none]
    show spare spec3 c ⊢ _
    iintro Hs
    isplitr; · iempintro
    isplitr; · iempintro
    iexact Hs
  hexit c := by
    rw [leaveA3]
    iintro ⟨Ha, HO, -, Hr, HB, HC⟩
    imodintro
    isplitl [Ha Hr]
    · isplitl [Ha]; · iexact Ha
      iexact Hr
    iapply (show iprop(semVal (bcell c bar0) 0 ∗ semVal (bcell c bar1) 0 ∗ owed c []) ⊢ E m 4 c from .rfl)
    isplitl [HB]; · iexact HB
    isplitl [HC]; · iexact HC
    iapply (owes_out (dat3 m c) (Fin.last _) [] rfl); iexact HO

end Cert.Ring

end

end
-- ==== Proof.Fund.lean ====
module

public import proofs.«01_k».proof.Proof.Regs
public import Idealize.ShloMosaic.Lib.Pipeline.RegionTalk
public import Idealize.ShloMosaic.Lib.Quiescent
public import Idealize.ShloMosaic.Harness.Basic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔻at" => Dat τ (Elt F) Unit ℕ UU ℕ

/-! ## The tokens, and whom each goes to -/

/-- The duties at a device's own cells: each barrier's from either side, and one at each transfer's semaphore. -/
abbrev Tk : Type := (Fin 2 × Bool) ⊕ (Fin 12 ⊕ Fin 6)
def tkSem : Tk → SemLoc sig
  | .inl p => .reg p.1
  | .inr j => .dma (scSem j)
def tkSide : Tk → Bool
  | .inl p => p.2
  | .inr _ => false
theorem tk_injective : Function.Injective fun k : Tk => (tkSem k, tkSide k) := by decide
/-- All devices' duties. -/
def talkToks : Finset (GSem nD τ sig × ℕ × Bool) :=
  Finset.univ.map ⟨fun ck : Dev nD × Tk => (((ck.1 : Thread nD τ), tkSem ck.2), 0, tkSide ck.2), fun _ _ h =>
    Prod.ext (congrArg (fun t : GSem nD τ sig × ℕ × Bool => t.1.1.1) h)
      (tk_injective (Prod.ext (congrArg (fun t : GSem nD τ sig × ℕ × Bool => t.1.2) h) (congrArg (fun t : GSem nD τ sig × ℕ × Bool => t.2.2) h)))⟩

theorem disjoint_cells : Disjoint barCells scCells := by
  rw [Finset.disjoint_left]
  rintro g h₁ h₂
  obtain ⟨p, -, rfl⟩ := Finset.mem_map.mp h₁
  obtain ⟨ck, -, h⟩ := Finset.mem_map.mp h₂
  have h' : (SemLoc.dma (scSem ck.2) : SemLoc sig) = .reg p.2 := congrArg Prod.snd h
  cases h'

/-- The tokens at a device's own cells. -/
def toks (c : Dev nD) : sProp 𝕄 :=
  iprop((dutyTok ER (bcell c bar0) 0 true ∗ dutyTok ER (bcell c bar0) 0 false ∗ dutyTok ER (bcell c bar1) 0 true ∗ dutyTok ER (bcell c bar1) 0 false)
    ∗ twelve (fun q => dutyTok ER (dcell c q) 0 false) ∗ six (fun q => dutyTok ER (dcell c q) 0 false))
omit [FloatOps F] in
theorem toks_eq : bigSep talkToks (fun x => (dutyTok ER x.1 x.2.1 x.2.2 : sProp 𝕄)) = bigSep Finset.univ fun c : Dev nD => toks c := by
  unfold talkToks; rw [bigSep_map, bigSep_univ_prod]
  refine bigSep_congr fun c _ => ?_
  rw [BI.bigSep_univ_sum, BI.bigSep_univ_sum]
  unfold toks twelve six
  rw [bigSep_univ_eq_bigSepL (I := Fin 2 × Bool) [(0, true), (0, false), (1, true), (1, false)] (by decide) (by decide)]
  rfl
omit [FloatOps F] in
/-- Each device's own tokens, handed to whoever pays them. -/
theorem toks_around : (bigSep Finset.univ fun c : Dev nD => (toks c : sProp 𝕄)) ⊢ bigSep Finset.univ fun c : Dev nD => iprop(toks0 c ∗ toks2 c) := by
  have hn (Φ : Dev nD → sProp 𝕄) : bigSep Finset.univ Φ ⊢ bigSep Finset.univ fun c => Φ (nxt c) := Entails.of_eq (bigSep_univ_equiv ring Φ)
  have hp (Φ : Dev nD → sProp 𝕄) : bigSep Finset.univ Φ ⊢ bigSep Finset.univ fun c => Φ (prv c) := Entails.of_eq (bigSep_univ_equiv ring.symm Φ)
  have hnd (q : DmaSem sig) : (bigSep Finset.univ fun c : Dev nD => dutyTok ER (dcell c q) 0 false : sProp 𝕄) ⊢ bigSep Finset.univ fun c => dutyTok ER (dcell (nxt c) q) 0 false := hn _
  have hpd (q : DmaSem sig) : (bigSep Finset.univ fun c : Dev nD => dutyTok ER (dcell c q) 0 false : sProp 𝕄) ⊢ bigSep Finset.univ fun c => dutyTok ER (dcell (prv c) q) 0 false := hp _
  unfold toks toks0 toks2
  simp only [twelve_eq, six_eq, bigSep_sep']
  iintro ⟨⟨B0t, B0f, B1t, B1f⟩, ⟨T2, T3, T4, T5, T6, T7, T8, T9, T10, T11, T12, T13⟩, T23, T24, T25, T26, T27, T28⟩
  isplitl [B0t B0f T2 T3 T4 T5 T6 T7 T8 T9 T10 T11 T12 T13]
  · isplitl [B0t]; · iapply (hp fun c => dutyTok ER (bcell c bar0) 0 true); iexact B0t
    isplitl [B0f]; · iapply (hn fun c => dutyTok ER (bcell c bar0) 0 false); iexact B0f
    isplitl [T2]; · iexact T2
    isplitl [T3]; · iexact T3
    isplitl [T4]; · iexact T4
    isplitl [T8]; · iexact T8
    isplitl [T9]; · iexact T9
    isplitl [T10]; · iexact T10
    isplitl [T5]; · iapply (hnd _); iexact T5
    isplitl [T6]; · iapply (hnd _); iexact T6
    isplitl [T7]; · iapply (hnd _); iexact T7
    isplitl [T11]; · iapply (hpd _); iexact T11
    isplitl [T12]; · iapply (hpd _); iexact T12
    iapply (hpd _); iexact T13
  isplitl [B1t]; · iapply (hp fun c => dutyTok ER (bcell c bar1) 0 true); iexact B1t
  isplitl [B1f]; · iapply (hn fun c => dutyTok ER (bcell c bar1) 0 false); iexact B1f
  isplitl [T23]; · iexact T23
  isplitl [T24]; · iexact T24
  isplitl [T25]; · iexact T25
  isplitl [T26]; · iapply (hnd _); iexact T26
  isplitl [T27]; · iapply (hnd _); iexact T27
  iapply (hnd _); iexact T28

/-! ## The credit of the launch -/

/-- The cells a device waits on, and how much for. -/
def needs : Fin 11 → SemLoc sig := fun k =>
  match k with
  | 0 => .reg bar0 | 1 => .dma (dq 5) | 2 => .dma (dq 6) | 3 => .dma (dq 7) | 4 => .dma (dq 11) | 5 => .dma (dq 12) | 6 => .dma (dq 13)
  | 7 => .reg bar1 | 8 => .dma (dq 26) | 9 => .dma (dq 27) | 10 => .dma (dq 28)
def units : Fin 11 → ℕ := fun k =>
  match k with
  | 0 => 2 | 1 => N0 | 2 => N0 | 3 => N0 | 4 => N0 | 5 => N0 | 6 => N0
  | 7 => 2 | 8 => N2 | 9 => N2 | 10 => N2
theorem needs_injective : Function.Injective needs := by decide
theorem sum_dues (c : Dev nD) (k : Fin 11) : (∑ d : Dev nD, cnt ((c : Thread nD τ), needs k) (dues0 d)) = units k := by
  rw [show (∑ d : Dev nD, cnt ((c : Thread nD τ), needs k) (dues0 d)) = _ from Fin.sum_univ_four _]
  fin_cases c <;> fin_cases k <;> simp (decide := true) only [cnt, dues0, dues2, needs, units, if_true, if_false, Nat.zero_add, Nat.add_zero, Nat.reduceAdd]

/-- What the devices owe at the launch. -/
abbrev O₀ (d : Dev nD) : CellTallies nD τ sig Unit := tal (dues0 d)
theorem launch_at (c : Dev nD) (k : Fin 11) :
    tallyOn ((c : Thread nD τ), needs k) (launchCredit (Pipeline.owing O₀) 0 ((c : Thread nD τ), needs k)) = (tallyAt ((c : Thread nD τ), needs k) () (units k) : CellTallies nD τ sig Unit) := by
  unfold tallyAt; refine congrArg _ (Finsupp.ext fun u => ?_); cases u
  rw [Pipeline.launchCredit_owing, Finsupp.single_eq_same, Finset.sum_congr rfl fun d _ => tal_apply (dues0 d) _ (), sum_dues]
omit [FloatOps F] in
theorem eleven (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [bigSep_univ_eq_bigSepL [0, 1, 2, 3, 4, 5, 6, 7, 8, 9, 10] (by decide) (by decide)]
  rfl
omit [FloatOps F] in
theorem creds (c : Dev nD) : (Pipeline.launchCred O₀ c : sProp 𝕄) ⊢ iprop(creds0 c ∗ creds2 c) := by
  unfold Pipeline.launchCred
  rw [bigSep_sdiff_split (Finset.subset_univ (Finset.univ.map ⟨needs, needs_injective⟩)), bigSep_map]
  simp only [Function.Embedding.coeFn_mk, launch_at]
  rw [eleven]
  unfold creds0 creds2
  show iprop(_ ∗ _) ⊢ _
  iintro ⟨⟨H0, H1, H2, H3, H4, H5, H6, H7, H8, H9, H10⟩, -⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [H9]; · iexact H9
  iexact H10

end Cert.Ring

end

end
-- ==== Proof.Launch.lean ====
module

public import proofs.«01_k».proof.Proof.Fund

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ
local notation "𝔻at" => Dat τ (Elt F) Unit ℕ UU ℕ

open Idealize.ShloMosaic.Smoke (bigSep_pair bigSep_unpair)
/-! ## The launch -/

theorem cells_injective' (a : Dev nD → (p : Fin 4) → (pcfgs (F := F) p).Adm) :
    Function.Injective (Pipeline.PerCore.cellOf (nD := nD) (τ := τ) (Pipeline.pinD (pcfgs (F := F)) a)) := by
  have htab (c : Dev nD) : ∀ p, Pipeline.specSems (Pipeline.pinD (pcfgs (F := F)) a c p).spec = semTab p :=
    fun | 0 => rfl | 1 => rfl | 2 => rfl | 3 => rfl | ⟨_ + 4, h⟩ => absurd h (Nat.not_lt.2 (Nat.le_add_left _ _))
  exact Pipeline.PerCore.cellOf_injective _ (fun c p => Pipeline.specSemsDistinct_of_nodup _ ((htab c p).symm ▸ semsDistinct p)) fun c p p' h =>
    Pipeline.specSemsDisjoint_of_disjoint _ _
      ((htab c p).symm ▸ (htab c p').symm ▸ fun _ hd hd' => List.forall_iff_forall_mem.1 (semsDisjoint p p' h) _ hd hd')
/-- The staging cells of all regions on all devices are pairwise distinct. -/
theorem cells_injective : Function.Injective (Pipeline.PerCore.cellOf (nD := nD) (τ := τ) (Pipeline.pinD (pcfgs (F := F)) adm)) := cells_injective' adm

/-- What the algebra starts from: the pipelines' part, and the protocol's. -/
def u₀ : UU :=
  (initOf (Pipeline.PerCore.cells (Pipeline.pinD (pcfgs (F := F)) adm) cells_injective) (Pipeline.PerCore.launchToks (Pipeline.pinD (pcfgs (F := F)) adm) cells_injective),
    launchOf barCells scCells talkToks)

/-- A thing that one device holds for all. -/
def heldBy (d : Dev nD) (P : sProp 𝕄) (c : Dev nD) : sProp 𝕄 := if c = d then P else iprop(emp)
omit [FloatOps F] in
theorem heldBy_all (d : Dev nD) (P : sProp 𝕄) : bigSep Finset.univ (heldBy d P) = P := by
  rw [bigSep_univ_at _ d, bigSep_congr (s := Finset.univ.erase d) (Ψ := fun _ => (BI.emp : sProp 𝕄))
      fun c hc => by unfold heldBy; rw [if_neg (Finset.ne_of_mem_erase hc)]; rfl, BI.bigSep_emp_const]
  unfold heldBy; rw [if_pos rfl]
  exact BI.equiv_iff.mp sep_emp
/-- The protocol's part of the algebra waits on device 0. -/
def Gh : Dev nD → sProp 𝕄 := heldBy 0 (BI.own (ER (launchOf barCells scCells talkToks)))

omit [FloatOps F] in
theorem unscoped_two (c : Dev nD) : (unscopedSems0 c : sProp 𝕄) = bigSep Finset.univ fun b : Sem sig => semVal (bcell c b) 0 := by
  unfold unscopedSems0
  rw [show (Finset.univ.filter fun sm : SemLoc sig => ¬ sm.isScoped .tc) = Finset.univ.map ⟨SemLoc.reg, fun _ _ h => SemLoc.reg.inj h⟩ from by decide, bigSep_map]
  rfl
theorem two (Φ : Sem sig → sProp 𝕄) : bigSep Finset.univ Φ = iprop(Φ bar0 ∗ Φ bar1) := BI.bigSep_fin_two Φ

variable (m : (ℓ : Loc nD τ sig) → Buf (Elt F) ℓ) (ρ : Dev nD → PrngReg)

/-- A device's state at the start of the program, and at its end. -/
abbrev T₀ (c : Dev nD) : sProp 𝕄 := iprop(all c (V0 m c) ∗ E m 0 c)
abbrev Tₙ (c : Dev nD) : sProp 𝕄 := iprop(all c (V17 m (outs m) c) ∗ semVal (bcell c bar0) 0 ∗ semVal (bcell c bar1) 0)

/-- What device `c` gets out of the protocol's records, and what it has of its own. -/
def mine (c : Dev nD) : sProp 𝕄 :=
  iprop((atPos ER (bcell c bar0) 0 ∅ 0 ∗ atPos ER (bcell c bar1) 0 ∅ 0) ∗ (twelve (fun q => openTok ER (dcell c q)) ∗ six (fun q => openTok ER (dcell c q))) ∗ toks0 c ∗ toks2 c)
def bundle (c : Dev nD) : sProp 𝕄 := iprop(all c (V0 m c) ∗ (creds0 c ∗ creds2 c) ∗ owed c (dues0 c))

theorem start (K : GSem nD τ sig → ℕ) (c : Dev nD) : iprop(recs (X m) (A m) K ∗ (mine c ∗ bundle m c)) ⊢ T₀ m c := by
  unfold mine bundle
  iintro ⟨#HR, ⟨⟨HA, HB⟩, ⟨HO, HP⟩, HT, HU⟩, Hh, ⟨HC, HD⟩, Hw⟩
  isplitl [Hh]; · iexact Hh
  iapply (show iprop(P0 m c ∗ P2 m c ∗ owed c (dues0 c)) ⊢ E m 0 c from .rfl)
  isplitl [HA HO HT HC]
  · unfold P0
    iexists K
    isplitr; · iexact HR
    isplitl [HA]; · iexact HA
    isplitl [HO]; · iexact HO
    isplitl [HT]; · iexact HT
    iexact HC
  isplitl [HB HP HU HD]
  · unfold P2
    iexists K
    isplitr; · iexact HR
    isplitl [HB]; · iexact HB
    isplitl [HP]; · iexact HP
    isplitl [HU]; · iexact HU
    iexact HD
  iexact Hw

/-- From what the devices are launched with to their states at the start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gh c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ Gh c)
      ⊢ (iprop(bundle m c ∗ ((bigSep Finset.univ fun b : Sem sig => semVal (bcell c b) 0) ∗ Gh c)) : sProp 𝕄) := by
    rw [show unscopedBufs c (fun b => m ((c : Thread nD τ).loc b)) = (all c (V0 m c) : sProp 𝕄) from Pipeline.unscopedBufs_held c (V0 m c), unscoped_two]
    unfold bundle
    iintro ⟨Hh, Hs, HO, Hc, -, HG⟩
    isplitl [Hh HO Hc]
    · isplitl [Hh]; · iexact Hh
      isplitl [Hc]; · iapply (creds c); iexact Hc
      unfold owed; iexists ∅; iexact HO
    isplitl [Hs] <;> iassumption
  have hv : (bigSep Finset.univ fun c : Dev nD => bigSep Finset.univ fun b : Sem sig => semVal (bcell c b) 0 : sProp 𝕄) ⊢ bigSep barCells (fun g => (semVal g 0 : sProp 𝕄)) :=
    Entails.of_eq (by unfold barCells; rw [bigSep_map, bigSep_univ_prod]; rfl)
  have hat : bigSep barCells (fun g => (atPos ER g 0 ∅ 0 : sProp 𝕄))
      ⊢ bigSep Finset.univ fun c : Dev nD => iprop(atPos ER (bcell c bar0) 0 ∅ 0 ∗ atPos ER (bcell c bar1) 0 ∅ 0) :=
    Entails.of_eq (by
      unfold barCells; rw [bigSep_map, bigSep_univ_prod]
      exact bigSep_congr fun c _ => two fun b => (atPos ER (bcell c b) 0 ∅ 0 : sProp 𝕄))
  have hopen : bigSep scCells (fun g => (openTok ER g : sProp 𝕄))
      ⊢ bigSep Finset.univ fun c : Dev nD => iprop(twelve (fun q => openTok ER (dcell c q)) ∗ six (fun q => openTok ER (dcell c q))) :=
    Entails.of_eq (by
      unfold scCells; rw [bigSep_map, bigSep_univ_prod]
      exact bigSep_congr fun c _ => (BI.bigSep_univ_sum _).trans rfl)
  iintro ⟨H, -⟩
  ihave H' := (show (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ Gh c))
      ⊢ (bigSep Finset.univ fun c : Dev nD => iprop(bundle m c ∗ ((bigSep Finset.univ fun b : Sem sig => semVal (bcell c b) 0) ∗ Gh c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (Gh (F := F)) ⊢ BI.own (ER (launchOf barCells scCells talkToks)) from
    Entails.of_eq (heldBy_all (F := F) 0 _)) $$ HG
  imod (Rounds.fund_launch ER (Rd (X m) (A m)) disjoint_cells (fun g _ h => h) talkToks) $$ [Hv Hu] with ⟨%K, -, #Hinv, #Hr, Hat, Hopen, Htok⟩
  · isplitl [Hv]
    · iapply hv; iexact Hv
    · iexact Hu
  imodintro
  iapply (bigSep_with_persistent (R := recs (X m) (A m) K) (Φ := fun c => iprop(mine c ∗ bundle m c)) fun c _ => start m K c)
  isplitr
  · unfold recs
    isplitr; · iexact Hinv
    iexact Hr
  iapply bigSep_pair
  isplitr [HB]
  · unfold mine
    iapply bigSep_pair; isplitl [Hat]; · iapply hat; iexact Hat
    iapply bigSep_pair; isplitl [Hopen]; · iapply hopen; iexact Hopen
    iapply (toks_around (F := F))
    iapply (Entails.of_eq (toks_eq (F := F))); iexact Htok
  · iexact HB

theorem unscoped_only : ∀ sm : SemLoc sig, sm.isScoped .tc = false → sm = .reg bar0 ∨ sm = .reg bar1 := by decide

/-- The program of device `c`, item by item. -/
abbrev items (c : Dev nD) : List (Pipeline.PerCore.Seg (pcfgs (F := F)) adm (pdats m) () defs₀ 𝒱₀ L lv) :=
  [.host (seg0 m 𝒱₀ L lv (E m)), .region (reg0 m), .host (seg2 m (outs m) 𝒱₀ L lv (E m) c), .host (seg3 m (outs m) 𝒱₀ L lv (E m)), .host (seg4 m (outs m) 𝒱₀ L lv (E m)), .host (seg5 m (outs m) 𝒱₀ L lv (E m)), .host (seg6 m (outs m) 𝒱₀ L lv (E m)), .host (seg7 m (outs m) 𝒱₀ L lv (E m)), .host (seg8 m (outs m) 𝒱₀ L lv (E m)), .host (seg9 m (outs m) 𝒱₀ L lv (E m)), .host (seg10 m (outs m) 𝒱₀ L lv (E m)), .host (seg11 m (outs m) 𝒱₀ L lv (E m)), .host (seg12 m (outs m) 𝒱₀ L lv (E m)), .host (seg13 m (outs m) 𝒱₀ L lv (E m)), .region (reg1 m), .region (reg2 m), .region (reg3 m)]

set_option backward.isDefEq.respectTransparency.types false in
/-- Every fair execution ends, on every device with the result as computed, the arguments unchanged and every counter at zero. -/
theorem run_main : θ_run defs (onTc (τ := τ) (main (F := F))) ⟨m, fun _ => 0, ρ⟩ (fun r => (∀ c : Dev nD,
      r.2.mem ((c.tc : Thread nD τ).loc main_v33) = R m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.PerCore.θ_run_regions_kit_sems (pcfgs (F := F)) adm (pdats m) () cells_injective EP defs₀ 𝒱₀ L lv m ρ main (items m)
    (fun c Q => by
      rewrite [main_chain c, Pipeline.PerCore.Seg.run_eq_chain,
        show (items m c).map Pipeline.PerCore.Seg.prog = [
          StableHlo.seq hostOps0,
          Prog.lift (.customCall (Pipeline.entry 0) ()),
          StableHlo.seq (hostOps1 c),
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          Prog.lift (.customCall (Pipeline.entry 1) ()),
          Prog.lift (.customCall (Pipeline.entry 2) ()),
          Prog.lift (.customCall (Pipeline.entry 3) ())] from rfl]
      dsimp (config := { failIfUnchanged := false }) only
      exact .rfl)
    (fun c => by simp only [items, Pipeline.PerCore.Seg.pipes_host, Pipeline.PerCore.Seg.pipes_region, Pipeline.PerCore.Seg.pipes_nil]; decide)
    O₀ L_of_ne Gh (u₀ (F := F)) ?_ (T₀ m) (Tₙ m)
    (fun c => ⟨.rfl, .rfl, .rfl, .rfl, .rfl, .rfl, .rfl, .rfl, .rfl, .rfl, .rfl, .rfl, .rfl, .rfl, .rfl, .rfl, .rfl, ?_⟩)
    (init m ρ)
    (fun c s => (s.mem ((c.tc : Thread nD τ).loc main_v33) = R m c
      ∧ s.mem ((c.tc : Thread nD τ).loc main_arg0) = m ((c.tc : Thread nD τ).loc main_arg0)
      ∧ s.mem ((c.tc : Thread nD τ).loc main_arg1) = m ((c.tc : Thread nD τ).loc main_arg1))
      ∧ s.sem (bcell c bar0) = 0 ∧ s.sem (bcell c bar1) = 0)
    (fun c s' => ?_)
    (fun s h hs => ⟨fun c => (h c).1, sem_eq_zero hs fun c sm hsm => ?_⟩)
  · unfold u₀ Gh
    iintro Hu
    ihave H := (ownU_pair _ _) $$ Hu
    icases H with ⟨HP, HX⟩
    imodintro
    isplitl [HP]; · iexact HP
    rw [heldBy_all]; iexact HX
  · show iprop(all c (V17 m (outs m) c) ∗ semVal (bcell c bar0) 0 ∗ semVal (bcell c bar1) 0 ∗ owed c [])
      ⊢ iprop(Tₙ m c ∗ ∃ W, owes (c : Thread nD τ) (0 : CellTallies nD τ sig Unit) W)
    iintro ⟨Hh, HA, HB, HO⟩
    isplitr [HO]
    · isplitl [Hh]; · iexact Hh
      isplitl [HA] <;> iassumption
    · unfold owed; iexact HO
  · dsimp only [Tₙ, all]
    unfold StableHlo.held
    iintro ⟨⟨Hh, HA, HB⟩, HSI⟩
    icombine HSI HA gives %ha
    icombine HSI HB gives %hb
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro
      exact ⟨⟨(h (Proc.devRef .tc main_v33) (Finset.mem_filter.mpr ⟨StableHlo.devRef_mem_tcRefs main_v33, by decide⟩)).trans (v17_r m c).symm,
        (h (Proc.devRef .tc main_arg0) (Finset.mem_filter.mpr ⟨StableHlo.devRef_mem_tcRefs main_arg0, by decide⟩)).trans (V17_main_arg0 m (outs m) c),
        (h (Proc.devRef .tc main_arg1) (Finset.mem_filter.mpr ⟨StableHlo.devRef_mem_tcRefs main_arg1, by decide⟩)).trans (V17_main_arg1 m (outs m) c)⟩,
        by simpa using ha, by simpa using hb⟩
    · iexact HSI
  · rcases unscoped_only sm hsm with rfl | rfl
    · exact (h c).2.1
    · exact (h c).2.2

end Cert.Ring

end

end
-- ==== Proof.Arrays.lean ====
module

public import proofs.«01_k».proof.Proof.Oblig2
public import proofs.«01_k».proof.Proof.Oblig3
public import Idealize.ShloMosaic.Lib.ValueIdx

@[expose] public section

noncomputable section

namespace Cert.Ring

open Cert.KernelIdeal Cert.KernelIdeal.Gen
open Idealize.ShloMosaic
open Idealize.ShloMosaic.TcCoe
open Idealize.ShloMosaic.ValueIdx
open Idealize.SL.Sem
open Idealize.ShloMosaic.Pipeline (Dat)

variable {F : FTy → Type} [FloatOps F]
variable (m : (ℓ : Loc nD τ sig) → Buf (Elt F) ℓ)

/-- Element `j` of block `t` of rows, as an index of the whole array. -/
def rows (t : Fin 8) (j : S512x2048.Idx) : S4096x2048.Idx
  | ⟨0, _⟩ => ⟨t.val * 512 + (j 0).val, by have h : (j 0).val < 512 := (j 0).isLt; show _ < 4096; omega⟩
  | ⟨1, _⟩ => j 1
/-- Every index of the array is in a block of rows. -/
theorem rows_onto (i : S4096x2048.Idx) : ∃ t j, rows t j = i := by
  have h : (i 0).val < 4096 := (i 0).isLt
  refine ⟨⟨(i 0).val / 512, by omega⟩, ValueIdx.ix2 (⟨(i 0).val % 512, Nat.mod_lt _ (by decide)⟩ : Fin 512) (i 1), funext fun a => Fin.ext ?_⟩
  match a with
  | ⟨0, _⟩ => show (i 0).val / 512 * 512 + (i 0).val % 512 = (i 0).val; omega
  | ⟨1, _⟩ => rfl

theorem at1_2 : ∀ t : Fin 8, cc1_transform_2 (grid1.coords t) = ![t.val, 0] := by decide +kernel
theorem at3_0 : ∀ t : Fin 8, cc3_transform_0 (grid3.coords t) = ![t.val, 0] := by decide +kernel
theorem at3_2 : ∀ t : Fin 8, cc3_transform_2 (grid3.coords t) = ![t.val, 0] := by decide +kernel

/-- A block of rows of a whole array, index by index. -/
theorem emb_rows (b : Ref sig .tc) (t : Fin 8) (hb : b.ty.shape = S4096x2048) (ix : Fin 2 → ℕ) (hx : ix = ![t.val, 0]) (j : S512x2048.Idx)
    (i : S4096x2048.Idx) (h0 : (i 0).val = ix 0 * 512 + (j 0).val) (h1 : (i 1).val = ix 1 * 2048 + (j 1).val) : i = rows t j := by
  subst hx
  refine funext fun a => Fin.ext ?_
  match a with
  | ⟨0, _⟩ => exact h0
  | ⟨1, _⟩ => exact h1.trans (show 0 * 2048 + (j 1).val = (j 1).val by omega)

theorem emb1_2 (c : Dev nD) (t : Fin 8) (j : S512x2048.Idx) :
    (((cfg1 (F := F) ⟨tab c, tab_ok c⟩).win 2).blk t).view.emb j = rows t j :=
  emb_rows main_v31_0 t rfl _ (at1_2 t) j _ (ValueKit.view_emb_slice_whole_unit_val main_v31_0 (fun a => cc1_transform_2 (grid1.coords t) a * S512x2048.size a) S512x2048.size _ j 0)
    (ValueKit.view_emb_slice_whole_unit_val main_v31_0 (fun a => cc1_transform_2 (grid1.coords t) a * S512x2048.size a) S512x2048.size _ j 1)
theorem emb3_0 (t : Fin 8) (j : S512x2048.Idx) : ((cfg3.win 0).blk t).view.emb j = rows t j :=
  emb_rows main_v31_0 t rfl _ (at3_0 t) j _ (ValueKit.view_emb_slice_whole_unit_val main_v31_0 (fun a => cc3_transform_0 (grid3.coords t) a * S512x2048.size a) S512x2048.size _ j 0)
    (ValueKit.view_emb_slice_whole_unit_val main_v31_0 (fun a => cc3_transform_0 (grid3.coords t) a * S512x2048.size a) S512x2048.size _ j 1)
theorem emb3_2 (t : Fin 8) (j : S512x2048.Idx) : ((cfg3.win 2).blk t).view.emb j = rows t j :=
  emb_rows main_v33 t rfl _ (at3_2 t) j _ (ValueKit.view_emb_slice_whole_unit_val main_v33 (fun a => cc3_transform_2 (grid3.coords t) a * S512x2048.size a) S512x2048.size _ j 0)
    (ValueKit.view_emb_slice_whole_unit_val main_v33 (fun a => cc3_transform_2 (grid3.coords t) a * S512x2048.size a) S512x2048.size _ j 1)

/-- An array each of whose blocks of rows is the product's is the product as region 1 leaves it. -/
theorem Y_eq (c : Dev nD) (f : S4096x2048.Idx → Elt F .f32) (h : ∀ t j, yblk m c t j = f (rows t j)) : Y m c = f :=
  (dat1 m c).arrAt_eq_of_cover 2 f
    (fun t _ => funext fun j => by
      rw [Dat.flushed_apply, after1_2]
      exact (h t j).trans (congrArg f (emb1_2 c t j).symm))
    (fun i => by
      obtain ⟨t, j, rfl⟩ := rows_onto i
      have h8 : t.val < (cfg1 (F := F) ⟨tab c, tab_ok c⟩).N := show t.val < grid1.N by rw [show grid1.N = 8 by decide]; exact t.isLt
      refine ⟨⟨t.val, h8⟩, flush1_2 (F := F) c ⟨t.val, h8⟩, ?_⟩
      have h := (((cfg1 (F := F) ⟨tab c, tab_ok c⟩).win 2).blk t).view.emb_mem_set j
      rwa [emb1_2 c t j] at h)
/-- The epilogue reads a block of rows of the product, -/
theorem read3_0 (t : Fin 8) (f : S4096x2048.Idx → Elt F .f32) : ((cfg3.win 0).blk t).view.read (Elt F) f = fun j => f (rows t j) :=
  funext fun j => congrArg f (emb3_0 t j)
theorem rblk_eq (c : Dev nD) (t : Fin 8) : rblk m c t = fun j => Y m c (rows t j) := read3_0 t (Y m c)
/-- and the one maximum. -/
theorem read3_1 (t : Fin 8) (a : Elt F .f32) (f : S1x1.Idx → Elt F .f32) (h : f = fun _ => a) : ((cfg3.win 1).blk t).view.read (Elt F) f one11 = a := by
  subst h; rfl
theorem gblk_eq (c : Dev nD) (t : Fin 8) : gblk m c t one11 = G m c := read3_1 t (G m c) (GC m c) (GC_eq m c)
/-- An array each of whose blocks of rows is the epilogue's is the result as region 3 leaves it. -/
theorem R_eq (c : Dev nD) (f : S4096x2048.Idx → Elt F .f32)
    (h : ∀ t j, k3_pay1 (G m c) (fun j => Y m c (rows t j)) j = f (rows t j)) : R m c = f :=
  (dat3 m c).arrAt_eq_of_cover 2 f
    (fun t _ => funext fun j => by
      rw [Dat.flushed_apply, after3_2, gblk_eq m c t, rblk_eq m c t]
      exact (h t j).trans (congrArg f (emb3_2 t j).symm))
    (fun i => by
      obtain ⟨t, j, rfl⟩ := rows_onto i
      refine ⟨t, flush3_2 t, ?_⟩
      have h := ((cfg3.win 2).blk t).view.emb_mem_set j
      rwa [emb3_2 t j] at h)

/-- Region 1's block of the gathered array is block `t` of the rows of `x`: half `t % 2` of device `t / 2`. -/
theorem owner : ∀ (c : Dev nD) (t : Fin 8), (srcDev c (slotOf c t)).val = t.val / 2 ∧ srcHalf (slotOf c t) = t.val % 2 := by decide

theorem gathered_at (c : Dev nD) : V14 m (o2 m) c main_v2 = (ag (X m) c : AgC F) := by
  rw [V14_of m (o2 m) c main_v2 (by decide), V13_of m (o2 m) c main_v2 (by decide), V12_of m (o2 m) c main_v2 (by decide),
    V11_of m (o2 m) c main_v2 (by decide), V10_of m (o2 m) c main_v2 (by decide), V9_of m (o2 m) c main_v2 (by decide),
    V8_of m (o2 m) c main_v2 (by decide), V7_of m (o2 m) c main_v2 (by decide), V6_of m (o2 m) c main_v2 (by decide),
    V5_of m (o2 m) c main_v2 (by decide), V4_of m (o2 m) c main_v2 (by decide), V3_of m (o2 m) c main_v2 (by decide)]
  exact (Function.update_self _ _ _).trans (Function.update_self _ _ _)
theorem share_at (c : Dev nD) : V1 m c main_v1 = truncf .bf16 (m ((c : Thread nD τ).loc main_arg0)) bitsLt_bf16_f32 := by
  after_reads_simp
theorem weight_at (c : Dev nD) : V14 m (o2 m) c main_v30 = truncf .bf16 (m ((c : Thread nD τ).loc main_arg1)) bitsLt_bf16_f32 := by
  after_reads_simp
  rw [V2_of m (o2 m) c main_arg1 (by decide), V1_of m c main_arg1 (by decide)]

end Cert.Ring

end

end
-- ==== Proof.Exact.lean ====
module

public import proofs.«01_k».proof.Proof.Arrays
public import Idealize.ShloMosaic.Lib.MatmulPlain
public import Idealize.ShloMosaic.Lib.StackMember
public import Idealize.ShloMosaic.Lib.Layout
public import Idealize.ShloMosaic.PureOps.Reduce
public import Idealize.ShloMosaic.PureOps.Ideal.Laws

@[expose] public section

noncomputable section

namespace Cert.Ring

open Cert.KernelIdeal Cert.KernelIdeal.Gen
open Idealize.ShloMosaic
open Idealize.ShloMosaic.TcCoe
open Idealize.SL.Sem
open scoped BigOperators

/-- The whole left factor, right factor and product. -/
abbrev SX : Shape := ⟨2, ![4096, 4096]⟩
abbrev SW : Shape := ⟨2, ![4096, 8192]⟩
/-- The product of two whole arrays, over the extended reals. -/
def prod (x : SX.Idx → EReal) (w : SW.Idx → EReal) : SW.Idx → EReal :=
  fun i => ∑ k : Fin 4096, x (ValueIdx.ix2 (i 0) k) * w (ValueIdx.ix2 k (i 1))
/-- A number's size. -/
def size (a : EReal) : EReal := max a (-a)
theorem size_nonneg (a : EReal) : 0 ≤ size a := by
  unfold size
  rcases le_total 0 a with h | h
  · exact le_max_of_le_left h
  · exact le_max_of_le_right (EReal.neg_nonneg.mpr h)

/-- How device `c`'s columns lie in the whole array. -/
theorem cols : Layout.Tiles S4096x2048 SW 1 4 := by decide
/-- Every index of the whole array is one of some device's, in one of its blocks of rows. -/
theorem cols_onto (i : SW.Idx) : ∃ (c : Dev nD) (t : Fin 8) (j : S512x2048.Idx), cols.idx c (rows t j) = i := by
  have h : (i 1).val < 8192 := (i 1).isLt
  obtain ⟨t, j, e⟩ := rows_onto (ValueIdx.ix2 (i 0) (⟨(i 1).val % 2048, Nat.mod_lt _ (by decide)⟩ : Fin 2048))
  refine ⟨⟨(i 1).val / 2048, by show _ < 4; omega⟩, t, j, ?_⟩
  rw [e]
  refine funext fun a => Fin.ext ?_
  match a with
  | ⟨0, _⟩ => rfl
  | ⟨1, _⟩ => show (i 1).val / 2048 * 2048 + (i 1).val % 2048 = (i 1).val; omega

/-! ## Maxima, by their upper bounds -/

theorem least : Ideal.ofBits .f32 0xFF800000#32 = ⊥ := by simp [Ideal.ofBits, Ideal.ieee]
theorem one_idx1 (x y : S1.Idx) : x = y := funext fun a => by fin_cases a; exact Subsingleton.elim (α := Fin 1) _ _
/-- A maximum over all of an array is below a number when every element is. -/
theorem reduced_le {s : Shape} {axes : List (Fin s.rank)} (src : s.Idx → EReal) (h : s.Reduces axes S1) (hφ : FKind.Formats .f32)
    (hacc) (j : S1.Idx) (z : EReal) :
    multiReduction (F := Ideal) .maximumf axes S1 src 0xFF800000#32 h hφ hacc j ≤ z ↔ ∀ i, src i ≤ z := by
  rw [multiReduction_maximumf_eq_fold]
  refine (Finset.fold_max_le z).trans ⟨fun H i => H.2 i (Finset.mem_filter.mpr ⟨Finset.mem_univ _, one_idx1 _ _⟩), fun H => ⟨?_, fun i _ => H i⟩⟩
  show Ideal.ofBits .f32 0xFF800000#32 ≤ z
  rw [least]; exact bot_le
/-- The same of the host's maximum. -/
theorem host_reduced_le {s t u : Shape} {axes : List (Fin s.rank)} (src : s.Idx → EReal) (init : u.Idx → EReal) (h : s.ReducesTo axes t) (hu : 0 < u.numel)
    (hi : ∀ i, init i = ⊥) (ht : ∀ x y : t.Idx, x = y) (j : t.Idx) (z : EReal) :
    Host.reduce (FloatOps.maximumf (F := Ideal) (φ := .f32)) src init h hu j ≤ z ↔ ∀ i, src i ≤ z := by
  rw [Host.reduce_eq_fold]
  refine (Finset.fold_max_le z).trans ⟨fun H i => H.2 i (Finset.mem_filter.mpr ⟨Finset.mem_univ _, ht _ _⟩), fun H => ⟨?_, fun i _ => H i⟩⟩
  rw [hi]; exact bot_le
/-- Bounding a reshaped array is bounding the array. -/
theorem reshaped_le {s t : Shape} (x : s.Idx → EReal) (h : s.ShapeCasts t) (z : EReal) : (∀ i, shapeCast t x h i ≤ z) ↔ ∀ i, x i ≤ z :=
  ⟨fun H i => by
    have e := H ((Shape.reshapeEquiv h).symm i)
    rw [shapeCast, Equiv.apply_symm_apply] at e
    exact e, fun H i => H _⟩

theorem pay2_le (a : EReal) (v : S512x2048.Idx → EReal) (z : EReal) : k1_pay2 (F := Ideal) a v ≤ z ↔ a ≤ z ∧ ∀ i, size (v i) ≤ z := by
  unfold k1_pay2
  rw [shapeCast_self]
  refine max_le_iff.trans (and_congr_right fun _ => ?_)
  refine Iff.trans ?_ (reshaped_le _ shapeCasts_S512x2048_S1x512x2048 z)
  exact reduced_le _ _ (.inl rfl) rfl _ z
theorem armax_le (v : S4x8x128.Idx → EReal) (z : EReal) : k2_pay1 (F := Ideal) v ≤ z ↔ ∀ i, v i ≤ z := by
  unfold k2_pay1
  refine Iff.trans ?_ (reshaped_le _ shapeCasts_S4x8x128_S1x4x8x128 z)
  exact reduced_le _ _ (.inl rfl) rfl _ z

variable (m : (ℓ : Loc nD τ sig) → Buf (Elt Ideal) ℓ)

theorem start_zero : Scalar.ofBits (F := Ideal) .f32 0x00000000#32 = (0 : EReal) := Ideal.ofBits_zero_f32
theorem base_eq (c : Dev nD) (n : ℕ) (h : n < 8) : base1 (grid1.coords ⟨n, h⟩) (am m c n) = am m c n := by
  unfold base1
  split_ifs with h0
  · have e : n = 0 := (coords1 ⟨n, h⟩).symm.trans h0
    subst e
    rfl
  · rfl
theorem am_le (c : Dev nD) (z : EReal) : ∀ n, n ≤ 8 → (am m c n ≤ z ↔ 0 ≤ z ∧ ∀ t : Fin 8, t.val < n → ∀ j, size (yblk m c t j) ≤ z) := by
  intro n
  induction n with
  | zero =>
    intro _
    rw [show am m c 0 = (0 : EReal) from start_zero]
    exact ⟨fun h => ⟨h, fun t ht => absurd ht (Nat.not_lt_zero _)⟩, fun h => h.1⟩
  | succ n ih =>
    intro hn
    rw [am, dif_pos (show n < 8 by omega), base_eq]
    refine (pay2_le _ _ z).trans ?_
    rw [ih (by omega)]
    constructor
    · rintro ⟨⟨h0, h1⟩, h2⟩
      refine ⟨h0, fun t ht j => ?_⟩
      rcases Nat.lt_succ_iff_lt_or_eq.mp ht with h | h
      · exact h1 t h j
      · have e : t = ⟨n, by omega⟩ := Fin.ext h
        rw [e]
        exact h2 j
    · rintro ⟨h0, h1⟩
      exact ⟨⟨h0, fun t ht => h1 t (by omega)⟩, h1 ⟨n, by omega⟩ (Nat.lt_succ_self n)⟩

theorem srcDev2_onto : ∀ c d : Dev nD, ∃ k : Fin 4, srcDev2 c k.val = d := by decide
/-- The maximum over the devices is below a number when every element of every device's product is. -/
theorem G_le (c : Dev nD) (z : EReal) : G m c ≤ z ↔ ∀ d t j, size (yblk m d t j) ≤ z := by
  unfold G
  refine (armax_le _ z).trans ⟨fun H d t j => ?_, fun H i => ?_⟩
  · obtain ⟨k, e⟩ := srcDev2_onto c d
    have h : A m d ≤ z := e ▸ H (ValueIdx.ix3 k (0 : Fin 8) (0 : Fin 128))
    exact ((am_le m d z 8 le_rfl).mp h).2 t t.isLt j
  · exact (am_le m _ z 8 le_rfl).mpr ⟨(size_nonneg _).trans (H c 0 (ValueIdx.ix2 (0 : Fin 512) (0 : Fin 2048))), fun t _ j => H _ t j⟩

end Cert.Ring

end

end
-- ==== Proof.Product.lean ====
module

public import proofs.«01_k».proof.Proof.Exact

@[expose] public section

noncomputable section

namespace Cert.Ring

open Cert.KernelIdeal Cert.KernelIdeal.Gen
open Idealize.ShloMosaic
open Idealize.ShloMosaic.TcCoe
open Idealize.SL.Sem
open scoped BigOperators

section
variable {F : FTy → Type} [FloatOps F] (m : (ℓ : Loc nD τ sig) → Buf (Elt F) ℓ)

/-- The block region 1 reads at a point, in the gathered array. -/
theorem slot_at (c : Dev nD) (t : Fin 8) : cc1_transform_0 k1_off1_inb numel1_S1 (tab (F := F) c) (grid1.coords t) = ![slotOf c t, 0, 0] :=
  (index_tab c (grid1.coords t)).trans (by rw [show (grid1.coords t) 0 = t from Fin.ext (coords1 t)])
/-- Where an element of region 1's block of the gathered array, and of the weight, lies. -/
theorem emb1_0 (c : Dev nD) (t : Fin 8) (i : S1x512x4096.Idx) (a : Fin 3) :
    ((((cfg1 (F := F) ⟨tab c, tab_ok c⟩).win 0).blk t).view.emb i a).val = (![slotOf c t, 0, 0] : Fin 3 → ℕ) a * S1x512x4096.size a + (i a).val :=
  (ValueKit.view_emb_slice_whole_unit_val main_v2
    (fun a => cc1_transform_0 k1_off1_inb numel1_S1 (tab (F := F) c) (grid1.coords t) a * S1x512x4096.size a) S1x512x4096.size _ i a).trans
    (congrArg (fun n : ℕ => n * S1x512x4096.size a + (i a).val) (congrFun (slot_at c t) a))
theorem emb1_1 (c : Dev nD) (t : Fin 8) (i : S4096x2048.Idx) : (((cfg1 (F := F) ⟨tab c, tab_ok c⟩).win 1).blk t).view.emb i = i :=
  funext fun a => Fin.ext <| (ValueKit.view_emb_slice_whole_unit_val main_v30
    (fun a => cc1_transform_1 (grid1.coords t) a * S4096x2048.size a) S4096x2048.size _ i a).trans <| by
      match a with
      | ⟨0, _⟩ => show 0 * 4096 + (i 0).val = (i 0).val; omega
      | ⟨1, _⟩ => show 0 * 2048 + (i 1).val = (i 1).val; omega

theorem read1_0 (c : Dev nD) (t : Fin 8) (f : S8x512x4096.Idx → Elt F .bf16) (r : Fin 512) (k : Fin 4096) :
    (((cfg1 (F := F) ⟨tab c, tab_ok c⟩).win 0).blk t).view.read (Elt F) f (ValueIdx.ix3 (0 : Fin 1) r k)
      = f (ValueIdx.ix3 (⟨slotOf c t, slotOf_lt c t⟩ : Fin 8) r k) := by
  refine congrArg f (funext fun a => Fin.ext ((emb1_0 c t _ a).trans ?_))
  match a with
  | ⟨0, _⟩ => show slotOf c t * 1 + 0 = slotOf c t; omega
  | ⟨1, _⟩ => show 0 * 512 + r.val = r.val; omega
  | ⟨2, _⟩ => show 0 * 4096 + k.val = k.val; omega
theorem xblk_at (c : Dev nD) (t : Fin 8) (r : Fin 512) (k : Fin 4096) :
    xblk m c t (ValueIdx.ix3 (0 : Fin 1) r k) = X m (srcDev c (slotOf c t)) (rowIx (srcHalf (slotOf c t)) (srcHalf_lt _) r k) :=
  (read1_0 c t _ r k).trans (congrFun (gathered_at m c) _)
/-- Region 1's one block of the weight is the weight. -/
theorem read1_1 (c : Dev nD) (t : Fin 8) (f : S4096x2048.Idx → Elt F .bf16) :
    (((cfg1 (F := F) ⟨tab c, tab_ok c⟩).win 1).blk t).view.read (Elt F) f = f := funext fun i => congrArg f (emb1_1 c t i)
theorem wblk_eq (c : Dev nD) (t : Fin 8) : wblk m c t = truncf .bf16 (m ((c : Thread nD τ).loc main_arg1)) bitsLt_bf16_f32 :=
  (read1_1 c t _).trans (weight_at m c)
end

variable (m : (ℓ : Loc nD τ sig) → Buf (Elt Ideal) ℓ)

/-- How device `d`'s rows of the left factor lie in it. -/
theorem shares : Layout.Tiles S1024x4096 SX 0 4 := by decide

section
variable (x : SX.Idx → EReal) (w : SW.Idx → EReal)
variable (hx : ∀ c : Dev nD, m ((c : Thread nD τ).loc main_arg0) = Layout.block S1024x4096 SX 0 4 c x shares)
variable (hw : ∀ c : Dev nD, m ((c : Thread nD τ).loc main_arg1) = Layout.block S4096x2048 SW 1 4 c w cols)
include hx hw

theorem xblk_ideal (c : Dev nD) (t : Fin 8) (r : Fin 512) (k : Fin 4096) :
    xblk m c t (ValueIdx.ix3 (0 : Fin 1) r k) = x (ValueIdx.ix2 (⟨t.val * 512 + r.val, by omega⟩ : Fin 4096) k) := by
  rw [xblk_at]
  unfold X
  rw [share_at, hx]
  refine congrArg x (funext fun a => Fin.ext ?_)
  have o := owner c t
  match a with
  | ⟨0, _⟩ =>
    show (srcDev c (slotOf c t)).val * 1024 + (srcHalf (slotOf c t) * 512 + r.val) = t.val * 512 + r.val
    rw [o.1, o.2]; omega
  | ⟨1, _⟩ => rfl

/-- Each block of a device's product is that block of the whole product's columns there. -/
theorem yblk_ideal (c : Dev nD) (t : Fin 8) (j : S512x2048.Idx) : yblk m c t j = prod x w (cols.idx c (rows t j)) := by
  obtain ⟨r, q, rfl⟩ : ∃ (r : Fin 512) (q : Fin 2048), j = ValueIdx.ix2 r q := ⟨j 0, j 1, ValueIdx.eq_ix2 j⟩
  unfold yblk k1_pay1
  rw [shapeCast_self]
  refine (Ideal.matmul_plain_apply none _ _ _ r q).trans ?_
  refine (congrArg₂ (· + ·) (show constant (F := Ideal) S512x2048 .f32 0x00000000#32 (ValueIdx.ix2 r q) = (0 : EReal) from Ideal.ofBits_zero_f32) rfl).trans ?_
  refine (zero_add _).trans (Finset.sum_congr rfl fun k _ => congrArg₂ (· * ·) ?_ ?_)
  · refine Eq.trans ?_ ((xblk_ideal m x w hx hw c t r k).trans ?_)
    · refine (shapeCast_dropUnit_apply _ _ _ _).trans (congrArg (xblk m c t) (funext fun a => ?_))
      fin_cases a <;> rfl
    · refine congrArg x (funext fun a => Fin.ext ?_)
      fin_cases a <;> rfl
  · rw [wblk_eq, hw]
    refine congrArg w (funext fun a => Fin.ext ?_)
    fin_cases a <;> rfl

theorem Y_ideal (c : Dev nD) : Y m c = fun i => prod x w (cols.idx c i) :=
  Y_eq m c _ (yblk_ideal m x w hx hw c)
/-- The kernel's maximum is the whole product's largest size. -/
theorem G_ideal_le (c : Dev nD) (z : EReal) : G m c ≤ z ↔ ∀ i, size (prod x w i) ≤ z := by
  refine (G_le m c z).trans ⟨fun H i => ?_, fun H d t j => ?_⟩
  · obtain ⟨d, t, j, rfl⟩ := cols_onto i
    exact yblk_ideal m x w hx hw d t j ▸ H d t j
  · rw [yblk_ideal m x w hx hw]; exact H _
end

end Cert.Ring

end

end
-- ==== Proof.Result.lean ====
module

public import proofs.«01_k».proof.Proof.Product
public import proofs.«01_k».proof.Proof.Gen.ReferenceIdeal.Run

@[expose] public section

noncomputable section

namespace Cert.Ring

open Idealize.ShloMosaic
open Idealize.ShloMosaic.TcCoe
open Idealize.SL.Sem

/-- A number over the scale of a maximum, rounded, held between −127 and 127, times the scale. -/
def quant (a p : Ideal .f32) : Ideal .f32 :=
  Scalar.mulf (Scalar.minimumf (Scalar.ofBits .f32 0x42FE0000#32) (Scalar.maximumf (Scalar.ofBits .f32 0xC2FE0000#32)
    (FloatOps.roundeven (Scalar.divf p (Scalar.divf a (Scalar.ofBits .f32 0x42FE0000#32)))))) (Scalar.divf a (Scalar.ofBits .f32 0x42FE0000#32))

section Reference
open Cert.ReferenceIdeal Cert.ReferenceIdeal.Gen

/-- The reference's maximum of an array's sizes. -/
def top (p : SW.Idx → EReal) : S_.Idx → EReal :=
  Host.reduce (FloatOps.maximumf (F := Ideal) (φ := .f32)) (Host.absf (F := Ideal) (φ := .f32) p) (constant (F := Ideal) S_ .f32 0xFF800000#32) reducesTo_S4096x8192_S_d0_1 h_S_
theorem only_idx (x y : S_.Idx) : x = y := funext fun a => absurd a.isLt (Nat.not_lt_zero _)
theorem top_le (p : SW.Idx → EReal) (j : S_.Idx) (z : EReal) : top p j ≤ z ↔ ∀ i, size (p i) ≤ z :=
  host_reduced_le _ _ _ _ (fun _ => least) only_idx j z

/-- The reference's product. -/
def whole (x : SX.Idx → EReal) (w : SW.Idx → EReal) : SW.Idx → EReal :=
  Host.dotGeneral (F := Ideal) (φ₁ := .f32) (φ₂ := .f32) dot_S4096x4096_S4096x8192_S4096x8192_1_0_0_1_n_n none x w
/-- The reference's result, from its two arguments. -/
def res (x : SX.Idx → EReal) (w : SW.Idx → EReal) : SW.Idx → EReal :=
  mulf (F := Ideal) (φ := .f32) (minimumf (broadcastInDim S4096x8192 ![] bcast_S_S4096x8192 (id (constant S_ .f32 0x42FE0000#32))) (maximumf (broadcastInDim S4096x8192 ![] bcast_S_S4096x8192 (id (constant S_ .f32 0xC2FE0000#32))) (Host.roundeven (Host.divf (whole x w) (broadcastInDim S4096x8192 ![] bcast_S_S4096x8192 (Host.divf (top (whole x w)) (constant S_ .f32 0x42FE0000#32)))))))
    (broadcastInDim S4096x8192 ![] bcast_S_S4096x8192 (Host.divf (top (whole x w)) (constant S_ .f32 0x42FE0000#32)))
theorem dot_eq (x : SX.Idx → EReal) (w : SW.Idx → EReal) :
    whole x w = prod x w := by
  funext i
  obtain ⟨r, q, rfl⟩ : ∃ (r : Fin 4096) (q : Fin 8192), i = ValueIdx.ix2 r q := ⟨i 0, i 1, ValueIdx.eq_ix2 i⟩
  exact StackMember.dotGeneral_plain_apply none x w r q
/-- It is the product's elements quantised at the product's largest size. -/
theorem res_at (x : SX.Idx → EReal) (w : SW.Idx → EReal) (i : SW.Idx) (a : EReal) (ha : ∀ z, a ≤ z ↔ ∀ i, size (prod x w i) ≤ z) :
    res x w i = quant a (prod x w i) := by
  unfold res
  rw [dot_eq]
  have e : top (prod x w) = fun _ => a := funext fun j => eq_of_forall_ge_iff fun z => (top_le _ j z).trans (ha z).symm
  rw [e]
  rfl
end Reference

section Kernel
open Cert.KernelIdeal Cert.KernelIdeal.Gen

theorem pay3_at (a : EReal) (y : S512x2048.Idx → EReal) (j : S512x2048.Idx) : k3_pay1 (F := Ideal) a y j = quant a (y j) := by
  unfold k3_pay1
  rw [shapeCast_self]
  rfl
/-- Each device ends with its columns of the reference's result. -/
theorem R_ideal (m : (ℓ : Loc nD τ sig) → Buf (Elt Ideal) ℓ) (x : SX.Idx → EReal) (w : SW.Idx → EReal)
    (hx : ∀ c : Dev nD, m ((c : Thread nD τ).loc main_arg0) = Layout.block S1024x4096 SX 0 4 c x shares)
    (hw : ∀ c : Dev nD, m ((c : Thread nD τ).loc main_arg1) = Layout.block S4096x2048 SW 1 4 c w cols) (c : Dev nD) :
    R m c = Layout.block S4096x2048 SW 1 4 c (res x w) cols :=
  R_eq m c _ fun t j => by
    rw [Y_ideal m x w hx hw c, pay3_at]
    exact (res_at x w (cols.idx c (rows t j)) (G m c) (G_ideal_le m x w hx hw c)).symm
end Kernel

end Cert.Ring

end

end
-- ==== Proof.lean ====
/- The claims, from the run. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Result
public import Idealize.ShloMosaic.Lib.Tactic

@[expose] public section

noncomputable section

namespace Cert.Proof

open Idealize.ShloMosaic Idealize.SL.Sem

/-- At any float values the kernel ends, its arguments unchanged and every counter at zero. -/
def Frame (F : FTy → Type) [FloatOps F] : Prop :=
  ∀ (m : (ℓ : Loc Cert.KernelIdeal.nD Cert.KernelIdeal.τ Cert.KernelIdeal.sig) → Buf (Elt F) ℓ)
    (ρ : Dev Cert.KernelIdeal.nD → PrngReg), True →
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)
/-- It does, from the run. -/
theorem frame_any (F : FTy → Type) [FloatOps F] : Frame F := fun m ρ _ =>
  (θ_run Cert.KernelIdeal.defs _ _).mono (fun _ h => ⟨fun c => (h.1 c).2, h.2⟩) (Cert.Ring.run_main m ρ)
/-- The two programs have one text, so the frame at words is this one at words. -/
theorem frame_eq : Frame Bits = Cert.quiescent_Kernel := by sl_kernel_rfl
/-- So it does at exact arithmetic. -/
theorem frame_ideal : Cert.quiescent_KernelIdeal := frame_any Ideal
/-- So it does at words, the two programs' text being the same. -/
theorem frame_words : Cert.quiescent_Kernel := frame_eq.mp (frame_any Bits)
/-- The reference does: it is a line of host operations, and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals each device ends with its columns of the reference's result, and both keep their arguments. -/
theorem algebraic : Cert.algebraic_KernelIdeal_ReferenceIdeal (hKernelIdeal := Cert.KernelIdeal.Gen.facts)
    (hReferenceIdeal := Cert.ReferenceIdeal.Gen.facts) := fun m g m' g' _ h =>
  ⟨Cert.Ring.res (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r e c =>
      ⟨(e.1 c).1.trans (Cert.Ring.R_ideal m _ _ (fun c => (h c).1) (fun c => (h c).2) c), (e.1 c).2⟩) (Cert.Ring.run_main (F := Ideal) m g),
    (θ_run Cert.ReferenceIdeal.defs _ _).mono (fun r e => e 0) (Cert.ReferenceIdeal.Value.run (F := Ideal) m' g')⟩

theorem claim : Cert.Claim := ⟨Cert.Kernel.Gen.facts, Cert.KernelIdeal.Gen.facts, Cert.ReferenceIdeal.Gen.facts,
  frame_words, frame_ideal, frame_reference, trivial, algebraic⟩

end Cert.Proof

end
